-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S32x4096 : Shape := ⟨2, ![32, 4096]⟩
abbrev S32x2048 : Shape := ⟨2, ![32, 2048]⟩
abbrev S4096 : Shape := ⟨1, ![4096]⟩
abbrev S_ : Shape := ⟨0, ![]⟩
abbrev S16 : Shape := ⟨1, ![16]⟩
abbrev S16x2048 : Shape := ⟨2, ![16, 2048]⟩
abbrev S1x16 : Shape := ⟨2, ![1, 16]⟩
abbrev S1x4096 : Shape := ⟨2, ![1, 4096]⟩
abbrev S1x4224 : Shape := ⟨2, ![1, 4224]⟩
abbrev S128x2048 : Shape := ⟨2, ![128, 2048]⟩
abbrev S128x128 : Shape := ⟨2, ![128, 128]⟩
abbrev S128x2176 : Shape := ⟨2, ![128, 2176]⟩
abbrev S64x2x2176 : Shape := ⟨3, ![64, 2, 2176]⟩
abbrev S64x1x2176 : Shape := ⟨3, ![64, 1, 2176]⟩
abbrev S64x2176 : Shape := ⟨2, ![64, 2176]⟩
abbrev S32x2x2176 : Shape := ⟨3, ![32, 2, 2176]⟩
abbrev S32x1x2176 : Shape := ⟨3, ![32, 1, 2176]⟩
abbrev S32x2176 : Shape := ⟨2, ![32, 2176]⟩
abbrev S16x2x2176 : Shape := ⟨3, ![16, 2, 2176]⟩
abbrev S16x1x2176 : Shape := ⟨3, ![16, 1, 2176]⟩
abbrev S16x2176 : Shape := ⟨2, ![16, 2176]⟩
abbrev S8x2x2176 : Shape := ⟨3, ![8, 2, 2176]⟩
abbrev S8x1x2176 : Shape := ⟨3, ![8, 1, 2176]⟩
abbrev S8x2176 : Shape := ⟨2, ![8, 2176]⟩
abbrev S4x2x2176 : Shape := ⟨3, ![4, 2, 2176]⟩
abbrev S4x1x2176 : Shape := ⟨3, ![4, 1, 2176]⟩
abbrev S4x2176 : Shape := ⟨2, ![4, 2176]⟩
abbrev S2x2x2176 : Shape := ⟨3, ![2, 2, 2176]⟩
abbrev S2x1x2176 : Shape := ⟨3, ![2, 1, 2176]⟩
abbrev S2x2176 : Shape := ⟨2, ![2, 2176]⟩
abbrev S1x2x2176 : Shape := ⟨3, ![1, 2, 2176]⟩
abbrev S1x1x2176 : Shape := ⟨3, ![1, 1, 2176]⟩
abbrev S1x2176 : Shape := ⟨2, ![1, 2176]⟩
abbrev S2176 : Shape := ⟨1, ![2176]⟩

abbrev nBuf : Table → Nat
  | .hbm => 5
  | .local .tc .vmem => 6
  | .local .scVector .vmem => 2
  | _ => 0

abbrev bufTy : (tb : Table) → Fin (nBuf tb) → BufTy
  | .hbm, ⟨0, _⟩ => ⟨S2048x2048, .f32⟩
  | .hbm, ⟨1, _⟩ => ⟨S32x4096, .f32⟩
  | .hbm, ⟨2, _⟩ => ⟨S1x4224, .f32⟩
  | .hbm, ⟨3, _⟩ => ⟨S1x4096, .f32⟩
  | .hbm, ⟨4, _⟩ => ⟨S4096, .f32⟩
  | .local .tc .vmem, ⟨0, _⟩ => ⟨S128x2048, .f32⟩
  | .local .tc .vmem, ⟨1, _⟩ => ⟨S128x2048, .f32⟩
  | .local .tc .vmem, ⟨2, _⟩ => ⟨S1x4224, .f32⟩
  | .local .tc .vmem, ⟨3, _⟩ => ⟨S32x4096, .f32⟩
  | .local .tc .vmem, ⟨4, _⟩ => ⟨S1x4224, .f32⟩
  | .local .tc .vmem, ⟨5, _⟩ => ⟨S1x4096, .f32⟩
  | .local .scVector .vmem, ⟨0, _⟩ => ⟨S32x2048, .f32⟩
  | .local .scVector .vmem, ⟨1, _⟩ => ⟨S4096, .f32⟩
  | _, _ => ⟨S2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc2_stg0_0 : Ref sig .tc := ⟨.vmem, 3, rfl⟩
abbrev cc2_stg1_0 : Ref sig .tc := ⟨.vmem, 4, rfl⟩
abbrev cc2_stg2_0 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc2_sem0_0 : DmaSem sig := 6
abbrev cc2_sem1_0 : DmaSem sig := 7
abbrev cc2_sem2_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c256_i32 : BitVec 32 := 256#32
  let v3 : BitVec 32 := Scalar.addi c0_i32 c256_i32
  let c1_i32 : BitVec 32 := 1#32
  ⟨c0_i32, v3, c1_i32⟩
def k0_off1 (k0_t1 : Fin k0_t1_loop.trips) : Fin 1 → Nat :=
  let c0_i32_40 : BitVec 32 := 0#32
  let c0_i32 : BitVec 32 := 0#32
  let c1_i32 : BitVec 32 := 1#32
  let arg8 : BitVec 32 := Scf.iv c0_i32 c1_i32 k0_t1
  let c1_i32_39 : BitVec 32 := 1#32
  let v29 : BitVec 32 := Scalar.muli arg8 c1_i32_39
  let v30 : BitVec 32 := Scalar.addi c0_i32_40 v29
  let c16_i32_41 : BitVec 32 := 16#32
  let v31 : BitVec 32 := Scalar.muli v30 c16_i32_41
  let v32 : Index := Scalar.indexCast v31
  ![v32.toNat]
def k0_off2 (i : grid0.Coords) : Fin 2 → Nat :=
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_1 : BitVec 32 := 16#32
  let v7 : BitVec 32 := Scalar.muli v4 c16_i32_1
  let c0_i32_4 : BitVec 32 := 0#32
  ![v7.toNat, 0]
def k0_off3 (i : grid0.Coords) : Fin 2 → Nat :=
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_8 : BitVec 32 := 16#32
  let v12 : BitVec 32 := Scalar.muli v5 c16_i32_8
  let c0_i32_11 : BitVec 32 := 0#32
  ![v12.toNat, 0]
@[reducible] def k0_t2_loop : Scf.Loop 32 :=
  let c0_i32_23 : BitVec 32 := 0#32
  let c16_i32_24 : BitVec 32 := 16#32
  let v22 : BitVec 32 := Scalar.addi c0_i32_23 c16_i32_24
  let c1_i32_25 : BitVec 32 := 1#32
  ⟨c0_i32_23, v22, c1_i32_25⟩
def k0_off4 (i : grid0.Coords) (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v59 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c0_i32_51 : BitVec 32 := 0#32
  let v58 : BitVec 32 := Scalar.addi v54 c0_i32_51
  let v60 : Index := Scalar.indexCast v58
  ![v59.toNat, v60.toNat]

def k0_chk1 (v63 : IVec S16 32) : Prop :=
  (∀ a x, ((![v63] : Fin 1 → IVec S16 32) a x).toNat < S4096.size a)
theorem k0_idx1_inb : ∀ (v63 : IVec S16 32) (k0_hw1 : k0_chk1 v63), ∀ a x, ((![v63] : Fin 1 → IVec S16 32) a x).toNat < S4096.size a := fun v63 k0_hw1 => k0_hw1
def k0_off5 (i : grid0.Coords) (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v73 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c16_i32_53 : BitVec 32 := 16#32
  let v72 : BitVec 32 := Scalar.addi v54 c16_i32_53
  let v74 : Index := Scalar.indexCast v72
  ![v73.toNat, v74.toNat]

def k0_chk2 (v77 : IVec S16 32) : Prop :=
  (∀ a x, ((![v77] : Fin 1 → IVec S16 32) a x).toNat < S4096.size a)
theorem k0_idx2_inb : ∀ (v77 : IVec S16 32) (k0_hw2 : k0_chk2 v77), ∀ a x, ((![v77] : Fin 1 → IVec S16 32) a x).toNat < S4096.size a := fun v77 k0_hw2 => k0_hw2
def k0_off6 (i : grid0.Coords) (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v87 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c32_i32_55 : BitVec 32 := 32#32
  let v86 : BitVec 32 := Scalar.addi v54 c32_i32_55
  let v88 : Index := Scalar.indexCast v86
  ![v87.toNat, v88.toNat]

def k0_chk3 (v91 : IVec S16 32) : Prop :=
  (∀ a x, ((![v91] : Fin 1 → IVec S16 32) a x).toNat < S4096.size a)
theorem k0_idx3_inb : ∀ (v91 : IVec S16 32) (k0_hw3 : k0_chk3 v91), ∀ a x, ((![v91] : Fin 1 → IVec S16 32) a x).toNat < S4096.size a := fun v91 k0_hw3 => k0_hw3
def k0_off7 (i : grid0.Coords) (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v101 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c48_i32_57 : BitVec 32 := 48#32
  let v100 : BitVec 32 := Scalar.addi v54 c48_i32_57
  let v102 : Index := Scalar.indexCast v100
  ![v101.toNat, v102.toNat]

def k0_chk4 (v105 : IVec S16 32) : Prop :=
  (∀ a x, ((![v105] : Fin 1 → IVec S16 32) a x).toNat < S4096.size a)
theorem k0_idx4_inb : ∀ (v105 : IVec S16 32) (k0_hw4 : k0_chk4 v105), ∀ a x, ((![v105] : Fin 1 → IVec S16 32) a x).toNat < S4096.size a := fun v105 k0_hw4 => k0_hw4
def k0_off8 (i : grid0.Coords) (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v115 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c64_i32_60 : BitVec 32 := 64#32
  let v114 : BitVec 32 := Scalar.addi v54 c64_i32_60
  let v116 : Index := Scalar.indexCast v114
  ![v115.toNat, v116.toNat]

def k0_chk5 (v119 : IVec S16 32) : Prop :=
  (∀ a x, ((![v119] : Fin 1 → IVec S16 32) a x).toNat < S4096.size a)
theorem k0_idx5_inb : ∀ (v119 : IVec S16 32) (k0_hw5 : k0_chk5 v119), ∀ a x, ((![v119] : Fin 1 → IVec S16 32) a x).toNat < S4096.size a := fun v119 k0_hw5 => k0_hw5
def k0_off9 (i : grid0.Coords) (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v129 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c80_i32_62 : BitVec 32 := 80#32
  let v128 : BitVec 32 := Scalar.addi v54 c80_i32_62
  let v130 : Index := Scalar.indexCast v128
  ![v129.toNat, v130.toNat]

def k0_chk6 (v133 : IVec S16 32) : Prop :=
  (∀ a x, ((![v133] : Fin 1 → IVec S16 32) a x).toNat < S4096.size a)
theorem k0_idx6_inb : ∀ (v133 : IVec S16 32) (k0_hw6 : k0_chk6 v133), ∀ a x, ((![v133] : Fin 1 → IVec S16 32) a x).toNat < S4096.size a := fun v133 k0_hw6 => k0_hw6
def k0_off10 (i : grid0.Coords) (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v143 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c96_i32_64 : BitVec 32 := 96#32
  let v142 : BitVec 32 := Scalar.addi v54 c96_i32_64
  let v144 : Index := Scalar.indexCast v142
  ![v143.toNat, v144.toNat]

def k0_chk7 (v147 : IVec S16 32) : Prop :=
  (∀ a x, ((![v147] : Fin 1 → IVec S16 32) a x).toNat < S4096.size a)
theorem k0_idx7_inb : ∀ (v147 : IVec S16 32) (k0_hw7 : k0_chk7 v147), ∀ a x, ((![v147] : Fin 1 → IVec S16 32) a x).toNat < S4096.size a := fun v147 k0_hw7 => k0_hw7
def k0_off11 (i : grid0.Coords) (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v157 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c112_i32_66 : BitVec 32 := 112#32
  let v156 : BitVec 32 := Scalar.addi v54 c112_i32_66
  let v158 : Index := Scalar.indexCast v156
  ![v157.toNat, v158.toNat]

def k0_chk8 (v161 : IVec S16 32) : Prop :=
  (∀ a x, ((![v161] : Fin 1 → IVec S16 32) a x).toNat < S4096.size a)
theorem k0_idx8_inb : ∀ (v161 : IVec S16 32) (k0_hw8 : k0_chk8 v161), ∀ a x, ((![v161] : Fin 1 → IVec S16 32) a x).toNat < S4096.size a := fun v161 k0_hw8 => k0_hw8
@[reducible] def k0_t3_loop (i : grid0.Coords) (k0_t2 : Fin k0_t2_loop.trips) : Scf.Loop 32 :=
  let c0_i32_74 : BitVec 32 := 0#32
  let c15_i32_69 : BitVec 32 := 15#32
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let c0_i32_23 : BitVec 32 := 0#32
  let c1_i32_25 : BitVec 32 := 1#32
  let arg8 : BitVec 32 := Scf.iv c0_i32_23 c1_i32_25 k0_t2
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let v168 : BitVec 32 := Scalar.subi c15_i32_69 v167
  let c1_i32_70 : BitVec 32 := 1#32
  let c1_i32_71 : BitVec 32 := 1#32
  let v169 : BitVec 32 := Scalar.subi c1_i32_70 c1_i32_71
  let v170 : BitVec 32 := Scalar.addi v168 v169
  let c1_i32_72 : BitVec 32 := 1#32
  let v171 : BitVec 32 := Scalar.divsi v170 c1_i32_72
  let v172 : BitVec 32 := Scalar.subi v171 c0_i32_74
  let c1_i32_75 : BitVec 32 := 1#32
  let v174 : BitVec 32 := Scalar.divsi v172 c1_i32_75
  let v175 : BitVec 32 := Scalar.muli v174 c1_i32_75
  let v176 : BitVec 32 := Scalar.addi c0_i32_74 v175
  let c1_i32_76 : BitVec 32 := 1#32
  ⟨c0_i32_74, v176, c1_i32_76⟩
def k0_off12 (i : grid0.Coords) (k0_t2 : Fin k0_t2_loop.trips) (k0_t3 : Fin (k0_t3_loop i k0_t2).trips) (c0_i32_81 : BitVec 32) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v184 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let c0_i32_74 : BitVec 32 := 0#32
  let c1_i32_76 : BitVec 32 := 1#32
  let arg9 : BitVec 32 := Scf.iv c0_i32_74 c1_i32_76 k0_t3
  let c1_i32_73 : BitVec 32 := 1#32
  let v180 : BitVec 32 := Scalar.muli arg9 c1_i32_73
  let v181 : BitVec 32 := Scalar.addi v167 v180
  let c128_i32_80 : BitVec 32 := 128#32
  let v182 : BitVec 32 := Scalar.muli v181 c128_i32_80
  let v183 : BitVec 32 := Scalar.addi v182 c0_i32_81
  let v185 : Index := Scalar.indexCast v183
  ![v184.toNat, v185.toNat]
def k0_off13 (i : grid0.Coords) (k0_t2 : Fin k0_t2_loop.trips) (k0_t3 : Fin (k0_t3_loop i k0_t2).trips) (c0_i32_82 : BitVec 32) : Fin 1 → Nat :=
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let c0_i32_23 : BitVec 32 := 0#32
  let c1_i32_25 : BitVec 32 := 1#32
  let arg8 : BitVec 32 := Scf.iv c0_i32_23 c1_i32_25 k0_t2
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let c0_i32_74 : BitVec 32 := 0#32
  let c1_i32_76 : BitVec 32 := 1#32
  let arg9 : BitVec 32 := Scf.iv c0_i32_74 c1_i32_76 k0_t3
  let c1_i32_73 : BitVec 32 := 1#32
  let v180 : BitVec 32 := Scalar.muli arg9 c1_i32_73
  let v181 : BitVec 32 := Scalar.addi v167 v180
  let c128_i32_80 : BitVec 32 := 128#32
  let v182 : BitVec 32 := Scalar.muli v181 c128_i32_80
  let v187 : BitVec 32 := Scalar.addi v182 c0_i32_82
  let c2048_i32 : BitVec 32 := 2048#32
  let v31 : BitVec 32 := Scalar.subi c2048_i32 v30
  let v188 : BitVec 32 := Scalar.addi v187 v31
  let v189 : Index := Scalar.indexCast v188
  ![v189.toNat]
@[reducible] def k0_t4_loop (i : grid0.Coords) (k0_t2 : Fin k0_t2_loop.trips) : Scf.Loop 32 :=
  let c0_i32_74 : BitVec 32 := 0#32
  let c15_i32_69 : BitVec 32 := 15#32
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let c0_i32_23 : BitVec 32 := 0#32
  let c1_i32_25 : BitVec 32 := 1#32
  let arg8 : BitVec 32 := Scf.iv c0_i32_23 c1_i32_25 k0_t2
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let v168 : BitVec 32 := Scalar.subi c15_i32_69 v167
  let c1_i32_70 : BitVec 32 := 1#32
  let c1_i32_71 : BitVec 32 := 1#32
  let v169 : BitVec 32 := Scalar.subi c1_i32_70 c1_i32_71
  let v170 : BitVec 32 := Scalar.addi v168 v169
  let c1_i32_72 : BitVec 32 := 1#32
  let v171 : BitVec 32 := Scalar.divsi v170 c1_i32_72
  let v172 : BitVec 32 := Scalar.subi v171 c0_i32_74
  let c1_i32_75 : BitVec 32 := 1#32
  let v174 : BitVec 32 := Scalar.divsi v172 c1_i32_75
  let v175 : BitVec 32 := Scalar.muli v174 c1_i32_75
  let v176 : BitVec 32 := Scalar.addi c0_i32_74 v175
  let v173 : BitVec 32 := Scalar.addi c0_i32_74 v172
  let c1_i32_77 : BitVec 32 := 1#32
  ⟨v176, v173, c1_i32_77⟩
def k0_off14 (i : grid0.Coords) (k0_t2 : Fin k0_t2_loop.trips) (k0_t4 : Fin (k0_t4_loop i k0_t2).trips) (c0_i32_81 : BitVec 32) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v184 : Index := Scalar.indexCast v29
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let c0_i32_74 : BitVec 32 := 0#32
  let c15_i32_69 : BitVec 32 := 15#32
  let v168 : BitVec 32 := Scalar.subi c15_i32_69 v167
  let c1_i32_70 : BitVec 32 := 1#32
  let c1_i32_71 : BitVec 32 := 1#32
  let v169 : BitVec 32 := Scalar.subi c1_i32_70 c1_i32_71
  let v170 : BitVec 32 := Scalar.addi v168 v169
  let c1_i32_72 : BitVec 32 := 1#32
  let v171 : BitVec 32 := Scalar.divsi v170 c1_i32_72
  let v172 : BitVec 32 := Scalar.subi v171 c0_i32_74
  let c1_i32_75 : BitVec 32 := 1#32
  let v174 : BitVec 32 := Scalar.divsi v172 c1_i32_75
  let v175 : BitVec 32 := Scalar.muli v174 c1_i32_75
  let v176 : BitVec 32 := Scalar.addi c0_i32_74 v175
  let c1_i32_77 : BitVec 32 := 1#32
  let arg9 : BitVec 32 := Scf.iv v176 c1_i32_77 k0_t4
  let c1_i32_73 : BitVec 32 := 1#32
  let v180 : BitVec 32 := Scalar.muli arg9 c1_i32_73
  let v181 : BitVec 32 := Scalar.addi v167 v180
  let c128_i32_80 : BitVec 32 := 128#32
  let v182 : BitVec 32 := Scalar.muli v181 c128_i32_80
  let v183 : BitVec 32 := Scalar.addi v182 c0_i32_81
  let v185 : Index := Scalar.indexCast v183
  ![v184.toNat, v185.toNat]
def k0_off15 (i : grid0.Coords) (k0_t2 : Fin k0_t2_loop.trips) (k0_t4 : Fin (k0_t4_loop i k0_t2).trips) (c0_i32_82 : BitVec 32) : Fin 1 → Nat :=
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let c0_i32_23 : BitVec 32 := 0#32
  let c1_i32_25 : BitVec 32 := 1#32
  let arg8 : BitVec 32 := Scf.iv c0_i32_23 c1_i32_25 k0_t2
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let c0_i32_74 : BitVec 32 := 0#32
  let c15_i32_69 : BitVec 32 := 15#32
  let v168 : BitVec 32 := Scalar.subi c15_i32_69 v167
  let c1_i32_70 : BitVec 32 := 1#32
  let c1_i32_71 : BitVec 32 := 1#32
  let v169 : BitVec 32 := Scalar.subi c1_i32_70 c1_i32_71
  let v170 : BitVec 32 := Scalar.addi v168 v169
  let c1_i32_72 : BitVec 32 := 1#32
  let v171 : BitVec 32 := Scalar.divsi v170 c1_i32_72
  let v172 : BitVec 32 := Scalar.subi v171 c0_i32_74
  let c1_i32_75 : BitVec 32 := 1#32
  let v174 : BitVec 32 := Scalar.divsi v172 c1_i32_75
  let v175 : BitVec 32 := Scalar.muli v174 c1_i32_75
  let v176 : BitVec 32 := Scalar.addi c0_i32_74 v175
  let c1_i32_77 : BitVec 32 := 1#32
  let arg9 : BitVec 32 := Scf.iv v176 c1_i32_77 k0_t4
  let c1_i32_73 : BitVec 32 := 1#32
  let v180 : BitVec 32 := Scalar.muli arg9 c1_i32_73
  let v181 : BitVec 32 := Scalar.addi v167 v180
  let c128_i32_80 : BitVec 32 := 128#32
  let v182 : BitVec 32 := Scalar.muli v181 c128_i32_80
  let v187 : BitVec 32 := Scalar.addi v182 c0_i32_82
  let c2048_i32 : BitVec 32 := 2048#32
  let v31 : BitVec 32 := Scalar.subi c2048_i32 v30
  let v188 : BitVec 32 := Scalar.addi v187 v31
  let v189 : Index := Scalar.indexCast v188
  ![v189.toNat]
def k0_cond1 (i : grid0.Coords) (k0_t2 : Fin k0_t2_loop.trips) : BitVec 1 :=
  let c0_i32_42 : BitVec 32 := 0#32
  let c2_i32 : BitVec 32 := 2#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let c0_i32_23 : BitVec 32 := 0#32
  let c1_i32_25 : BitVec 32 := 1#32
  let arg8 : BitVec 32 := Scf.iv c0_i32_23 c1_i32_25 k0_t2
  let v30 : BitVec 32 := Scalar.addi v21 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c15_i32_78 : BitVec 32 := 15#32
  let v177 : BitVec 1 := Scalar.cmpi .slt v53 c15_i32_78
  let v178 : BitVec 32 := Scalar.extui v177
  let c0_i32_79 : BitVec 32 := 0#32
  let v179 : BitVec 1 := Scalar.cmpi .ne v178 c0_i32_79
  v179

def k0_off16 (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v180 : Index := Scalar.indexCast v29
  let c1920 : Index := 1920#32
  ![v180.toNat, 1920]
def k0_off17 (i : grid0.Coords) (k0_t2 : Fin k0_t2_loop.trips) (c1920_i32 : BitVec 32) : Fin 1 → Nat :=
  let c2048_i32 : BitVec 32 := 2048#32
  let c64_i32 : BitVec 32 := 64#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v4 : BitVec 32 := Scalar.addi c64_i32 v1
  let c16_i32_21 : BitVec 32 := 16#32
  let v21 : BitVec 32 := Scalar.muli v4 c16_i32_21
  let c0_i32_23 : BitVec 32 := 0#32
  let c1_i32_25 : BitVec 32 := 1#32
  let arg8 : BitVec 32 := Scf.iv c0_i32_23 c1_i32_25 k0_t2
  let v30 : BitVec 32 := Scalar.addi v21 arg8
  let v31 : BitVec 32 := Scalar.subi c2048_i32 v30
  let v182 : BitVec 32 := Scalar.addi c1920_i32 v31
  let v183 : Index := Scalar.indexCast v182
  ![v183.toNat]
def k0_off18 (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v189 : Index := Scalar.indexCast v29
  let c1936 : Index := 1936#32
  ![v189.toNat, 1936]
def k0_off19 (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v198 : Index := Scalar.indexCast v29
  let c1952 : Index := 1952#32
  ![v198.toNat, 1952]
def k0_off20 (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v207 : Index := Scalar.indexCast v29
  let c1968 : Index := 1968#32
  ![v207.toNat, 1968]
def k0_off21 (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v216 : Index := Scalar.indexCast v29
  let c1984 : Index := 1984#32
  ![v216.toNat, 1984]
def k0_off22 (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v225 : Index := Scalar.indexCast v29
  let c2000 : Index := 2000#32
  ![v225.toNat, 2000]
def k0_off23 (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v234 : Index := Scalar.indexCast v29
  let c2016 : Index := 2016#32
  ![v234.toNat, 2016]
def k0_off24 (k0_t2 : Fin k0_t2_loop.trips) : Fin 2 → Nat :=
  let c0_i32_39 : BitVec 32 := 0#32
  let c0_i32_23 : BitVec 32 := 0#32
  let c1_i32_25 : BitVec 32 := 1#32
  let arg8 : BitVec 32 := Scf.iv c0_i32_23 c1_i32_25 k0_t2
  let v29 : BitVec 32 := Scalar.addi c0_i32_39 arg8
  let v245 : Index := Scalar.indexCast v29
  let c2032 : Index := 2032#32
  ![v245.toNat, 2032]

def k0_chk9 (i : grid0.Coords) (k0_t2 : Fin k0_t2_loop.trips) (v248 : IVec S16 32) : Prop :=
  (∀ (k0_h1 : k0_cond1 i k0_t2 = 1#1), ∀ a x, ((![v248] : Fin 1 → IVec S16 32) a x).toNat < S4096.size a)
theorem k0_idx9_inb : ∀ (i : grid0.Coords) (k0_t2 : Fin k0_t2_loop.trips) (v248 : IVec S16 32) (k0_hw9 : k0_chk9 i k0_t2 v248), ∀ (k0_h1 : k0_cond1 i k0_t2 = 1#1), ∀ a x, ((![v248] : Fin 1 → IVec S16 32) a x).toNat < S4096.size a := fun i k0_t2 v248 k0_hw9 k0_h1 => k0_hw9 k0_h1
@[reducible] def k0_t5_loop : Scf.Loop 32 :=
  let c0_i32_35 : BitVec 32 := 0#32
  let c16_i32_36 : BitVec 32 := 16#32
  let v28 : BitVec 32 := Scalar.addi c0_i32_35 c16_i32_36
  let c1_i32_37 : BitVec 32 := 1#32
  ⟨c0_i32_35, v28, c1_i32_37⟩
def k0_off25 (i : grid0.Coords) (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v59 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c0_i32_51 : BitVec 32 := 0#32
  let v58 : BitVec 32 := Scalar.addi v54 c0_i32_51
  let v60 : Index := Scalar.indexCast v58
  ![v59.toNat, v60.toNat]

def k0_chk10 (v63 : IVec S16 32) : Prop :=
  (∀ a x, ((![v63] : Fin 1 → IVec S16 32) a x).toNat < S4096.size a)
theorem k0_idx10_inb : ∀ (v63 : IVec S16 32) (k0_hw10 : k0_chk10 v63), ∀ a x, ((![v63] : Fin 1 → IVec S16 32) a x).toNat < S4096.size a := fun v63 k0_hw10 => k0_hw10
def k0_off26 (i : grid0.Coords) (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v73 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c16_i32_53 : BitVec 32 := 16#32
  let v72 : BitVec 32 := Scalar.addi v54 c16_i32_53
  let v74 : Index := Scalar.indexCast v72
  ![v73.toNat, v74.toNat]

def k0_chk11 (v77 : IVec S16 32) : Prop :=
  (∀ a x, ((![v77] : Fin 1 → IVec S16 32) a x).toNat < S4096.size a)
theorem k0_idx11_inb : ∀ (v77 : IVec S16 32) (k0_hw11 : k0_chk11 v77), ∀ a x, ((![v77] : Fin 1 → IVec S16 32) a x).toNat < S4096.size a := fun v77 k0_hw11 => k0_hw11
def k0_off27 (i : grid0.Coords) (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v87 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c32_i32_55 : BitVec 32 := 32#32
  let v86 : BitVec 32 := Scalar.addi v54 c32_i32_55
  let v88 : Index := Scalar.indexCast v86
  ![v87.toNat, v88.toNat]

def k0_chk12 (v91 : IVec S16 32) : Prop :=
  (∀ a x, ((![v91] : Fin 1 → IVec S16 32) a x).toNat < S4096.size a)
theorem k0_idx12_inb : ∀ (v91 : IVec S16 32) (k0_hw12 : k0_chk12 v91), ∀ a x, ((![v91] : Fin 1 → IVec S16 32) a x).toNat < S4096.size a := fun v91 k0_hw12 => k0_hw12
def k0_off28 (i : grid0.Coords) (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v101 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c48_i32_57 : BitVec 32 := 48#32
  let v100 : BitVec 32 := Scalar.addi v54 c48_i32_57
  let v102 : Index := Scalar.indexCast v100
  ![v101.toNat, v102.toNat]

def k0_chk13 (v105 : IVec S16 32) : Prop :=
  (∀ a x, ((![v105] : Fin 1 → IVec S16 32) a x).toNat < S4096.size a)
theorem k0_idx13_inb : ∀ (v105 : IVec S16 32) (k0_hw13 : k0_chk13 v105), ∀ a x, ((![v105] : Fin 1 → IVec S16 32) a x).toNat < S4096.size a := fun v105 k0_hw13 => k0_hw13
def k0_off29 (i : grid0.Coords) (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v115 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c64_i32_60 : BitVec 32 := 64#32
  let v114 : BitVec 32 := Scalar.addi v54 c64_i32_60
  let v116 : Index := Scalar.indexCast v114
  ![v115.toNat, v116.toNat]

def k0_chk14 (v119 : IVec S16 32) : Prop :=
  (∀ a x, ((![v119] : Fin 1 → IVec S16 32) a x).toNat < S4096.size a)
theorem k0_idx14_inb : ∀ (v119 : IVec S16 32) (k0_hw14 : k0_chk14 v119), ∀ a x, ((![v119] : Fin 1 → IVec S16 32) a x).toNat < S4096.size a := fun v119 k0_hw14 => k0_hw14
def k0_off30 (i : grid0.Coords) (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v129 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c80_i32_62 : BitVec 32 := 80#32
  let v128 : BitVec 32 := Scalar.addi v54 c80_i32_62
  let v130 : Index := Scalar.indexCast v128
  ![v129.toNat, v130.toNat]

def k0_chk15 (v133 : IVec S16 32) : Prop :=
  (∀ a x, ((![v133] : Fin 1 → IVec S16 32) a x).toNat < S4096.size a)
theorem k0_idx15_inb : ∀ (v133 : IVec S16 32) (k0_hw15 : k0_chk15 v133), ∀ a x, ((![v133] : Fin 1 → IVec S16 32) a x).toNat < S4096.size a := fun v133 k0_hw15 => k0_hw15
def k0_off31 (i : grid0.Coords) (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v143 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c96_i32_64 : BitVec 32 := 96#32
  let v142 : BitVec 32 := Scalar.addi v54 c96_i32_64
  let v144 : Index := Scalar.indexCast v142
  ![v143.toNat, v144.toNat]

def k0_chk16 (v147 : IVec S16 32) : Prop :=
  (∀ a x, ((![v147] : Fin 1 → IVec S16 32) a x).toNat < S4096.size a)
theorem k0_idx16_inb : ∀ (v147 : IVec S16 32) (k0_hw16 : k0_chk16 v147), ∀ a x, ((![v147] : Fin 1 → IVec S16 32) a x).toNat < S4096.size a := fun v147 k0_hw16 => k0_hw16
def k0_off32 (i : grid0.Coords) (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v157 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c128_i32_49 : BitVec 32 := 128#32
  let v54 : BitVec 32 := Scalar.muli v53 c128_i32_49
  let c112_i32_66 : BitVec 32 := 112#32
  let v156 : BitVec 32 := Scalar.addi v54 c112_i32_66
  let v158 : Index := Scalar.indexCast v156
  ![v157.toNat, v158.toNat]

def k0_chk17 (v161 : IVec S16 32) : Prop :=
  (∀ a x, ((![v161] : Fin 1 → IVec S16 32) a x).toNat < S4096.size a)
theorem k0_idx17_inb : ∀ (v161 : IVec S16 32) (k0_hw17 : k0_chk17 v161), ∀ a x, ((![v161] : Fin 1 → IVec S16 32) a x).toNat < S4096.size a := fun v161 k0_hw17 => k0_hw17
@[reducible] def k0_t6_loop (i : grid0.Coords) (k0_t5 : Fin k0_t5_loop.trips) : Scf.Loop 32 :=
  let c0_i32_74 : BitVec 32 := 0#32
  let c15_i32_69 : BitVec 32 := 15#32
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let c0_i32_35 : BitVec 32 := 0#32
  let c1_i32_37 : BitVec 32 := 1#32
  let arg8 : BitVec 32 := Scf.iv c0_i32_35 c1_i32_37 k0_t5
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let v168 : BitVec 32 := Scalar.subi c15_i32_69 v167
  let c1_i32_70 : BitVec 32 := 1#32
  let c1_i32_71 : BitVec 32 := 1#32
  let v169 : BitVec 32 := Scalar.subi c1_i32_70 c1_i32_71
  let v170 : BitVec 32 := Scalar.addi v168 v169
  let c1_i32_72 : BitVec 32 := 1#32
  let v171 : BitVec 32 := Scalar.divsi v170 c1_i32_72
  let v172 : BitVec 32 := Scalar.subi v171 c0_i32_74
  let c1_i32_75 : BitVec 32 := 1#32
  let v174 : BitVec 32 := Scalar.divsi v172 c1_i32_75
  let v175 : BitVec 32 := Scalar.muli v174 c1_i32_75
  let v176 : BitVec 32 := Scalar.addi c0_i32_74 v175
  let c1_i32_76 : BitVec 32 := 1#32
  ⟨c0_i32_74, v176, c1_i32_76⟩
def k0_off33 (i : grid0.Coords) (k0_t5 : Fin k0_t5_loop.trips) (k0_t6 : Fin (k0_t6_loop i k0_t5).trips) (c0_i32_81 : BitVec 32) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v184 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let c0_i32_74 : BitVec 32 := 0#32
  let c1_i32_76 : BitVec 32 := 1#32
  let arg9 : BitVec 32 := Scf.iv c0_i32_74 c1_i32_76 k0_t6
  let c1_i32_73 : BitVec 32 := 1#32
  let v180 : BitVec 32 := Scalar.muli arg9 c1_i32_73
  let v181 : BitVec 32 := Scalar.addi v167 v180
  let c128_i32_80 : BitVec 32 := 128#32
  let v182 : BitVec 32 := Scalar.muli v181 c128_i32_80
  let v183 : BitVec 32 := Scalar.addi v182 c0_i32_81
  let v185 : Index := Scalar.indexCast v183
  ![v184.toNat, v185.toNat]
def k0_off34 (i : grid0.Coords) (k0_t5 : Fin k0_t5_loop.trips) (k0_t6 : Fin (k0_t6_loop i k0_t5).trips) (c0_i32_82 : BitVec 32) : Fin 1 → Nat :=
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let c0_i32_35 : BitVec 32 := 0#32
  let c1_i32_37 : BitVec 32 := 1#32
  let arg8 : BitVec 32 := Scf.iv c0_i32_35 c1_i32_37 k0_t5
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let c0_i32_74 : BitVec 32 := 0#32
  let c1_i32_76 : BitVec 32 := 1#32
  let arg9 : BitVec 32 := Scf.iv c0_i32_74 c1_i32_76 k0_t6
  let c1_i32_73 : BitVec 32 := 1#32
  let v180 : BitVec 32 := Scalar.muli arg9 c1_i32_73
  let v181 : BitVec 32 := Scalar.addi v167 v180
  let c128_i32_80 : BitVec 32 := 128#32
  let v182 : BitVec 32 := Scalar.muli v181 c128_i32_80
  let v187 : BitVec 32 := Scalar.addi v182 c0_i32_82
  let c2048_i32 : BitVec 32 := 2048#32
  let v31 : BitVec 32 := Scalar.subi c2048_i32 v30
  let v188 : BitVec 32 := Scalar.addi v187 v31
  let v189 : Index := Scalar.indexCast v188
  ![v189.toNat]
@[reducible] def k0_t7_loop (i : grid0.Coords) (k0_t5 : Fin k0_t5_loop.trips) : Scf.Loop 32 :=
  let c0_i32_74 : BitVec 32 := 0#32
  let c15_i32_69 : BitVec 32 := 15#32
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let c0_i32_35 : BitVec 32 := 0#32
  let c1_i32_37 : BitVec 32 := 1#32
  let arg8 : BitVec 32 := Scf.iv c0_i32_35 c1_i32_37 k0_t5
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let v168 : BitVec 32 := Scalar.subi c15_i32_69 v167
  let c1_i32_70 : BitVec 32 := 1#32
  let c1_i32_71 : BitVec 32 := 1#32
  let v169 : BitVec 32 := Scalar.subi c1_i32_70 c1_i32_71
  let v170 : BitVec 32 := Scalar.addi v168 v169
  let c1_i32_72 : BitVec 32 := 1#32
  let v171 : BitVec 32 := Scalar.divsi v170 c1_i32_72
  let v172 : BitVec 32 := Scalar.subi v171 c0_i32_74
  let c1_i32_75 : BitVec 32 := 1#32
  let v174 : BitVec 32 := Scalar.divsi v172 c1_i32_75
  let v175 : BitVec 32 := Scalar.muli v174 c1_i32_75
  let v176 : BitVec 32 := Scalar.addi c0_i32_74 v175
  let v173 : BitVec 32 := Scalar.addi c0_i32_74 v172
  let c1_i32_77 : BitVec 32 := 1#32
  ⟨v176, v173, c1_i32_77⟩
def k0_off35 (i : grid0.Coords) (k0_t5 : Fin k0_t5_loop.trips) (k0_t7 : Fin (k0_t7_loop i k0_t5).trips) (c0_i32_81 : BitVec 32) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v184 : Index := Scalar.indexCast v29
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let c0_i32_74 : BitVec 32 := 0#32
  let c15_i32_69 : BitVec 32 := 15#32
  let v168 : BitVec 32 := Scalar.subi c15_i32_69 v167
  let c1_i32_70 : BitVec 32 := 1#32
  let c1_i32_71 : BitVec 32 := 1#32
  let v169 : BitVec 32 := Scalar.subi c1_i32_70 c1_i32_71
  let v170 : BitVec 32 := Scalar.addi v168 v169
  let c1_i32_72 : BitVec 32 := 1#32
  let v171 : BitVec 32 := Scalar.divsi v170 c1_i32_72
  let v172 : BitVec 32 := Scalar.subi v171 c0_i32_74
  let c1_i32_75 : BitVec 32 := 1#32
  let v174 : BitVec 32 := Scalar.divsi v172 c1_i32_75
  let v175 : BitVec 32 := Scalar.muli v174 c1_i32_75
  let v176 : BitVec 32 := Scalar.addi c0_i32_74 v175
  let c1_i32_77 : BitVec 32 := 1#32
  let arg9 : BitVec 32 := Scf.iv v176 c1_i32_77 k0_t7
  let c1_i32_73 : BitVec 32 := 1#32
  let v180 : BitVec 32 := Scalar.muli arg9 c1_i32_73
  let v181 : BitVec 32 := Scalar.addi v167 v180
  let c128_i32_80 : BitVec 32 := 128#32
  let v182 : BitVec 32 := Scalar.muli v181 c128_i32_80
  let v183 : BitVec 32 := Scalar.addi v182 c0_i32_81
  let v185 : Index := Scalar.indexCast v183
  ![v184.toNat, v185.toNat]
def k0_off36 (i : grid0.Coords) (k0_t5 : Fin k0_t5_loop.trips) (k0_t7 : Fin (k0_t7_loop i k0_t5).trips) (c0_i32_82 : BitVec 32) : Fin 1 → Nat :=
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let c0_i32_35 : BitVec 32 := 0#32
  let c1_i32_37 : BitVec 32 := 1#32
  let arg8 : BitVec 32 := Scf.iv c0_i32_35 c1_i32_37 k0_t5
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c1_i32_68 : BitVec 32 := 1#32
  let v167 : BitVec 32 := Scalar.addi v53 c1_i32_68
  let c0_i32_74 : BitVec 32 := 0#32
  let c15_i32_69 : BitVec 32 := 15#32
  let v168 : BitVec 32 := Scalar.subi c15_i32_69 v167
  let c1_i32_70 : BitVec 32 := 1#32
  let c1_i32_71 : BitVec 32 := 1#32
  let v169 : BitVec 32 := Scalar.subi c1_i32_70 c1_i32_71
  let v170 : BitVec 32 := Scalar.addi v168 v169
  let c1_i32_72 : BitVec 32 := 1#32
  let v171 : BitVec 32 := Scalar.divsi v170 c1_i32_72
  let v172 : BitVec 32 := Scalar.subi v171 c0_i32_74
  let c1_i32_75 : BitVec 32 := 1#32
  let v174 : BitVec 32 := Scalar.divsi v172 c1_i32_75
  let v175 : BitVec 32 := Scalar.muli v174 c1_i32_75
  let v176 : BitVec 32 := Scalar.addi c0_i32_74 v175
  let c1_i32_77 : BitVec 32 := 1#32
  let arg9 : BitVec 32 := Scf.iv v176 c1_i32_77 k0_t7
  let c1_i32_73 : BitVec 32 := 1#32
  let v180 : BitVec 32 := Scalar.muli arg9 c1_i32_73
  let v181 : BitVec 32 := Scalar.addi v167 v180
  let c128_i32_80 : BitVec 32 := 128#32
  let v182 : BitVec 32 := Scalar.muli v181 c128_i32_80
  let v187 : BitVec 32 := Scalar.addi v182 c0_i32_82
  let c2048_i32 : BitVec 32 := 2048#32
  let v31 : BitVec 32 := Scalar.subi c2048_i32 v30
  let v188 : BitVec 32 := Scalar.addi v187 v31
  let v189 : Index := Scalar.indexCast v188
  ![v189.toNat]
def k0_cond2 (i : grid0.Coords) (k0_t5 : Fin k0_t5_loop.trips) : BitVec 1 :=
  let c0_i32_42 : BitVec 32 := 0#32
  let c2_i32 : BitVec 32 := 2#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let c0_i32_35 : BitVec 32 := 0#32
  let c1_i32_37 : BitVec 32 := 1#32
  let arg8 : BitVec 32 := Scf.iv c0_i32_35 c1_i32_37 k0_t5
  let v30 : BitVec 32 := Scalar.addi v27 arg8
  let v32 : BitVec 32 := Scalar.muli c2_i32 v30
  let c2048_i32_40 : BitVec 32 := 2048#32
  let v33 : BitVec 32 := Scalar.subi v32 c2048_i32_40
  let c2_i32_41 : BitVec 32 := 2#32
  let v34 : BitVec 32 := Scalar.addi v33 c2_i32_41
  let v35 : BitVec 32 := Scalar.maxsi c0_i32_42 v34
  let c0_i32_43 : BitVec 32 := 0#32
  let v37 : BitVec 1 := Scalar.cmpi .sgt v35 c0_i32_43
  let v38 : BitVec 32 := Scalar.extui v37
  let c0_i32_44 : BitVec 32 := 0#32
  let v39 : BitVec 1 := Scalar.cmpi .slt v35 c0_i32_44
  let v40 : BitVec 32 := Scalar.extui v39
  let v41 : BitVec 32 := Scalar.subi v38 v40
  let c128_i32 : BitVec 32 := 128#32
  let c0_i32_45 : BitVec 32 := 0#32
  let v42 : BitVec 1 := Scalar.cmpi .sgt c128_i32 c0_i32_45
  let v43 : BitVec 32 := Scalar.extui v42
  let c0_i32_46 : BitVec 32 := 0#32
  let v44 : BitVec 1 := Scalar.cmpi .slt c128_i32 c0_i32_46
  let v45 : BitVec 32 := Scalar.extui v44
  let v46 : BitVec 32 := Scalar.subi v43 v45
  let v47 : BitVec 1 := Scalar.cmpi .ne v41 v46
  let v48 : BitVec 32 := Scalar.remsi v35 c128_i32
  let c0_i32_47 : BitVec 32 := 0#32
  let v49 : BitVec 1 := Scalar.cmpi .ne v48 c0_i32_47
  let v50 : BitVec 1 := Scalar.andi v47 v49
  let v36 : BitVec 32 := Scalar.divsi v35 c128_i32
  let c1_i32_48 : BitVec 32 := 1#32
  let v51 : BitVec 32 := Scalar.subi v36 c1_i32_48
  let v52 : BitVec 32 := Scalar.select v50 v51 v36
  let c15_i32 : BitVec 32 := 15#32
  let v53 : BitVec 32 := Scalar.minsi v52 c15_i32
  let c15_i32_78 : BitVec 32 := 15#32
  let v177 : BitVec 1 := Scalar.cmpi .slt v53 c15_i32_78
  let v178 : BitVec 32 := Scalar.extui v177
  let c0_i32_79 : BitVec 32 := 0#32
  let v179 : BitVec 1 := Scalar.cmpi .ne v178 c0_i32_79
  v179

def k0_off37 (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v180 : Index := Scalar.indexCast v29
  let c1920 : Index := 1920#32
  ![v180.toNat, 1920]
def k0_off38 (i : grid0.Coords) (k0_t5 : Fin k0_t5_loop.trips) (c1920_i32 : BitVec 32) : Fin 1 → Nat :=
  let c2048_i32 : BitVec 32 := 2048#32
  let c127_i32 : BitVec 32 := 127#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v5 : BitVec 32 := Scalar.subi c127_i32 v1
  let c16_i32_33 : BitVec 32 := 16#32
  let v27 : BitVec 32 := Scalar.muli v5 c16_i32_33
  let c0_i32_35 : BitVec 32 := 0#32
  let c1_i32_37 : BitVec 32 := 1#32
  let arg8 : BitVec 32 := Scf.iv c0_i32_35 c1_i32_37 k0_t5
  let v30 : BitVec 32 := Scalar.addi v27 arg8
  let v31 : BitVec 32 := Scalar.subi c2048_i32 v30
  let v182 : BitVec 32 := Scalar.addi c1920_i32 v31
  let v183 : Index := Scalar.indexCast v182
  ![v183.toNat]
def k0_off39 (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v189 : Index := Scalar.indexCast v29
  let c1936 : Index := 1936#32
  ![v189.toNat, 1936]
def k0_off40 (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v198 : Index := Scalar.indexCast v29
  let c1952 : Index := 1952#32
  ![v198.toNat, 1952]
def k0_off41 (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v207 : Index := Scalar.indexCast v29
  let c1968 : Index := 1968#32
  ![v207.toNat, 1968]
def k0_off42 (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v216 : Index := Scalar.indexCast v29
  let c1984 : Index := 1984#32
  ![v216.toNat, 1984]
def k0_off43 (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v225 : Index := Scalar.indexCast v29
  let c2000 : Index := 2000#32
  ![v225.toNat, 2000]
def k0_off44 (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v234 : Index := Scalar.indexCast v29
  let c2016 : Index := 2016#32
  ![v234.toNat, 2016]
def k0_off45 (k0_t5 : Fin k0_t5_loop.trips) : Fin 2 → Nat :=
  let c16_i32_39 : BitVec 32 := 16#32
  let c0_i32_35 : BitVec 32 := 0#32
  let c1_i32_37 : BitVec 32 := 1#32
  let arg8 : BitVec 32 := Scf.iv c0_i32_35 c1_i32_37 k0_t5
  let v29 : BitVec 32 := Scalar.addi c16_i32_39 arg8
  let v245 : Index := Scalar.indexCast v29
  let c2032 : Index := 2032#32
  ![v245.toNat, 2032]

def k0_chk18 (i : grid0.Coords) (k0_t5 : Fin k0_t5_loop.trips) (v248 : IVec S16 32) : Prop :=
  (∀ (k0_h2 : k0_cond2 i k0_t5 = 1#1), ∀ a x, ((![v248] : Fin 1 → IVec S16 32) a x).toNat < S4096.size a)
theorem k0_idx18_inb : ∀ (i : grid0.Coords) (k0_t5 : Fin k0_t5_loop.trips) (v248 : IVec S16 32) (k0_hw18 : k0_chk18 i k0_t5 v248), ∀ (k0_h2 : k0_cond2 i k0_t5 = 1#1), ∀ a x, ((![v248] : Fin 1 → IVec S16 32) a x).toNat < S4096.size a := fun i k0_t5 v248 k0_hw18 k0_h2 => k0_hw18 k0_h2
def k0_off46 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_39_r0 : BitVec 32 := 0#32
  ![v1.toNat, 0]
abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_3 : BitVec 32 := 0#32
  let v67 : BitVec 1 := Scalar.cmpi .eq arg0 c0_i32_3
  let v68 : BitVec 32 := Scalar.extui v67
  let c0_i32_4 : BitVec 32 := 0#32
  let v69 : BitVec 1 := Scalar.cmpi .ne v68 c0_i32_4
  v69

def k1_cond3 (i : grid1.Coords) : BitVec 1 :=
  let arg0 : BitVec 32 := BitVec.ofNat 32 (i 0).val
  let c1_i32_5 : BitVec 32 := 1#32
  let v70 : BitVec 1 := Scalar.cmpi .eq arg0 c1_i32_5
  let v71 : BitVec 32 := Scalar.extui v70
  let c0_i32_6 : BitVec 32 := 0#32
  let v72 : BitVec 1 := Scalar.cmpi .ne v71 c0_i32_6
  v72

def k1_cond4 (i : grid1.Coords) : BitVec 1 :=
  let arg0 : BitVec 32 := BitVec.ofNat 32 (i 0).val
  let c2_i32_7 : BitVec 32 := 2#32
  let v73 : BitVec 1 := Scalar.cmpi .eq arg0 c2_i32_7
  let v74 : BitVec 32 := Scalar.extui v73
  let c0_i32_8 : BitVec 32 := 0#32
  let v75 : BitVec 1 := Scalar.cmpi .ne v74 c0_i32_8
  v75

def k1_cond5 (i : grid1.Coords) : BitVec 1 :=
  let arg0 : BitVec 32 := BitVec.ofNat 32 (i 0).val
  let c3_i32 : BitVec 32 := 3#32
  let v76 : BitVec 1 := Scalar.cmpi .eq arg0 c3_i32
  let v77 : BitVec 32 := Scalar.extui v76
  let c0_i32_9 : BitVec 32 := 0#32
  let v78 : BitVec 1 := Scalar.cmpi .ne v77 c0_i32_9
  v78

def k1_cond6 (i : grid1.Coords) : BitVec 1 :=
  let arg0 : BitVec 32 := BitVec.ofNat 32 (i 0).val
  let c4_i32_10 : BitVec 32 := 4#32
  let v79 : BitVec 1 := Scalar.cmpi .eq arg0 c4_i32_10
  let v80 : BitVec 32 := Scalar.extui v79
  let c0_i32_11 : BitVec 32 := 0#32
  let v81 : BitVec 1 := Scalar.cmpi .ne v80 c0_i32_11
  v81

def k1_cond7 (i : grid1.Coords) : BitVec 1 :=
  let arg0 : BitVec 32 := BitVec.ofNat 32 (i 0).val
  let c5_i32 : BitVec 32 := 5#32
  let v82 : BitVec 1 := Scalar.cmpi .eq arg0 c5_i32
  let v83 : BitVec 32 := Scalar.extui v82
  let c0_i32_12 : BitVec 32 := 0#32
  let v84 : BitVec 1 := Scalar.cmpi .ne v83 c0_i32_12
  v84

def k1_cond8 (i : grid1.Coords) : BitVec 1 :=
  let arg0 : BitVec 32 := BitVec.ofNat 32 (i 0).val
  let c6_i32 : BitVec 32 := 6#32
  let v85 : BitVec 1 := Scalar.cmpi .eq arg0 c6_i32
  let v86 : BitVec 32 := Scalar.extui v85
  let c0_i32_13 : BitVec 32 := 0#32
  let v87 : BitVec 1 := Scalar.cmpi .ne v86 c0_i32_13
  v87

def k1_cond9 (i : grid1.Coords) : BitVec 1 :=
  let arg0 : BitVec 32 := BitVec.ofNat 32 (i 0).val
  let c7_i32 : BitVec 32 := 7#32
  let v88 : BitVec 1 := Scalar.cmpi .eq arg0 c7_i32
  let v89 : BitVec 32 := Scalar.extui v88
  let c0_i32_14 : BitVec 32 := 0#32
  let v90 : BitVec 1 := Scalar.cmpi .ne v89 c0_i32_14
  v90

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4224 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := .none

abbrev stage2_0 : Fin 1 → Memref sig .tc .vmem S32x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x4224 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S4194304 : Shape := ⟨1, ![4194304]⟩
abbrev S4096 : Shape := ⟨1, ![4096]⟩
abbrev S4194304x1 : Shape := ⟨2, ![4194304, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .i32⟩
  | .hbm, ⟨2, _⟩ => ⟨S2048x1, .i32⟩
  | .hbm, ⟨3, _⟩ => ⟨S2048, .i32⟩
  | .hbm, ⟨4, _⟩ => ⟨S1x2048, .i32⟩
  | .hbm, ⟨5, _⟩ => ⟨S2048x2048, .i32⟩
  | .hbm, ⟨6, _⟩ => ⟨S2048x2048, .i32⟩
  | .hbm, ⟨7, _⟩ => ⟨S2048x2048, .i32⟩
  | .hbm, ⟨8, _⟩ => ⟨S2048x2048, .i32⟩
  | .hbm, ⟨9, _⟩ => ⟨S_, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S2048x2048, .i1⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S4194304, .i32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S4194304, .f32⟩
  | .hbm, ⟨29, _⟩ => ⟨S_, .f32⟩
  | .hbm, ⟨30, _⟩ => ⟨S4096, .f32⟩
  | .hbm, ⟨31, _⟩ => ⟨S4194304x1, .i32⟩
  | .hbm, ⟨32, _⟩ => ⟨S4096, .f32⟩
  | .hbm, ⟨33, _⟩ => ⟨S2048x2048, .f32⟩
  | .hbm, ⟨34, _⟩ => ⟨S4194304, .f32⟩
  | .hbm, ⟨35, _⟩ => ⟨S_, .f32⟩
  | .hbm, ⟨36, _⟩ => ⟨S4096, .f32⟩
  | .hbm, ⟨37, _⟩ => ⟨S4194304x1, .i32⟩
  | .hbm, ⟨38, _⟩ => ⟨S4096, .f32⟩
  | .hbm, ⟨39, _⟩ => ⟨S4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Proof.Sc.Base.lean ====
module

public import proofs.«01_k».proof.Proof.Gen.KernelIdeal.Launch
public import proofs.«01_k».proof.Proof.Gen.KernelIdeal.Points
public import Idealize.ShloMosaic.Lib.SparseCore.Quiescent
public import Idealize.ShloMosaic.Lib.Tactic

@[expose] public section

set_option maxRecDepth 16384

noncomputable section

/-! The launch's set-up: the SparseCore call's configuration, its side facts and the ghost state. -/

namespace Cert.KernelIdeal.Run

open Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

variable [FloatOps F]

theorem nSub_zero : (K (F := F)).nSub 0 = 16 := rfl
theorem nCore_zero : (K (F := F)).nCore 0 = 2 := rfl

/-- The launch semaphores are distinct where they must be and unscoped, and no task-shared buffer is a SparseCore's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

/-- The handshakes' rounds library, the left factor of the ghost state. -/
abbrev EH : Emb UH (MT nD τ sig (HIx 1) (Elt F) ℕ UU ℕ) := embL

/-- The pipelines' rounds library, the middle factor. -/
abbrev EP : Emb UP (MT nD τ sig (HIx 1) (Elt F) ℕ UU ℕ) := (Emb.inl : Emb UP (UP × Counters)).trans embR

/-- The pipelines' prefetched tables: none. -/
abbrev adm [FloatOps F] : (p : Fin 2) → (pcfgs (F := F) p).Adm := fun p => (cfgs p).toPCfg_adm

/-- The argument, the tiles' sums, the upper half's sums, the totals and the result, as locations of device `d`. -/
abbrev xLoc (d : Dev nD) : Loc nD τ sig := (SparseCore.T d).loc main_arg0
abbrev sLoc (d : Dev nD) : Loc nD τ sig := (SparseCore.T d).loc main_v0
abbrev uLoc (d : Dev nD) : Loc nD τ sig := (SparseCore.T d).loc main_v1
abbrev tLoc (d : Dev nD) : Loc nD τ sig := (SparseCore.T d).loc main_v2
abbrev rLoc (d : Dev nD) : Loc nD τ sig := (SparseCore.T d).loc main_v3

end Cert.KernelIdeal.Run
-- ==== Proof.Sc.Row.lean ====
module

public import proofs.«01_k».proof.Proof.Gen.KernelIdeal.Skeleton

@[expose] public section

set_option maxRecDepth 16384

noncomputable section

/-! The SparseCore task works through its rows one at a time, and both of its blocks of rows run the same
    program at a different row number. This module writes that program once, as a function of the row's number
    as a machine word, and shows that the printed loops' regions are it. -/

namespace Cert.KernelIdeal.Row

open Idealize.ShloMosaic Idealize.SL.Sem Cert.KernelIdeal.Gen

variable {F : FTy → Type} [FloatOps F]

/-! ## The words a row computes -/

/-- The first column row `r` keeps, `max 0 (2r - 2048 + 2)`. -/
def loW (r : BitVec 32) : BitVec 32 := Scalar.maxsi 0#32 (Scalar.addi (Scalar.subi (Scalar.muli 2#32 r) 2048#32) 2#32)

/-- How far right row `r` is moved, `2048 - r`. -/
def shW (r : BitVec 32) : BitVec 32 := Scalar.subi 2048#32 r

/-- The floor of a word over 128, as the program computes it. -/
def tileOfW (v35 : BitVec 32) : BitVec 32 :=
  let v36 : BitVec 32 := Scalar.divsi v35 128#32
  let v37 : BitVec 1 := Scalar.cmpi .sgt v35 0#32
  let v38 : BitVec 32 := Scalar.extui v37
  let v39 : BitVec 1 := Scalar.cmpi .slt v35 0#32
  let v40 : BitVec 32 := Scalar.extui v39
  let v41 : BitVec 32 := Scalar.subi v38 v40
  let v42 : BitVec 1 := Scalar.cmpi .sgt 128#32 0#32
  let v43 : BitVec 32 := Scalar.extui v42
  let v44 : BitVec 1 := Scalar.cmpi .slt 128#32 0#32
  let v45 : BitVec 32 := Scalar.extui v44
  let v46 : BitVec 32 := Scalar.subi v43 v45
  let v47 : BitVec 1 := Scalar.cmpi .ne v41 v46
  let v48 : BitVec 32 := Scalar.remsi v35 128#32
  let v49 : BitVec 1 := Scalar.cmpi .ne v48 0#32
  let v50 : BitVec 1 := Scalar.andi v47 v49
  let v51 : BitVec 32 := Scalar.subi v36 1#32
  Scalar.select v50 v51 v36

/-- The tile of 128 columns that row `r` starts in. -/
def t0W (r : BitVec 32) : BitVec 32 := Scalar.minsi (tileOfW (loW r)) 15#32

/-- The number of whole tiles between the first and the last, as the program computes it. -/
def midW (t : BitVec 32) : BitVec 32 :=
  Scalar.subi (Scalar.divsi (Scalar.addi (Scalar.subi 15#32 (Scalar.addi t 1#32)) (Scalar.subi 1#32 1#32)) 1#32) 0#32

/-- The loop over the whole tiles, -/
@[reducible] def midLoop (t : BitVec 32) : Scf.Loop 32 :=
  ⟨0#32, Scalar.addi 0#32 (Scalar.muli (Scalar.divsi (midW t) 1#32) 1#32), 1#32⟩

/-- and its remainder, which never runs. -/
@[reducible] def remLoop (t : BitVec 32) : Scf.Loop 32 :=
  ⟨Scalar.addi 0#32 (Scalar.muli (Scalar.divsi (midW t) 1#32) 1#32), Scalar.addi 0#32 (midW t), 1#32⟩

/-- The first column of the `k`-th whole tile. -/
def midCol (t : BitVec 32) (iv : BitVec 32) : BitVec 32 :=
  Scalar.muli (Scalar.addi (Scalar.addi t 1#32) (Scalar.muli iv 1#32)) 128#32

/-- The flag that a last tile follows. -/
def lastW (t : BitVec 32) : BitVec 1 := Scalar.cmpi .ne (Scalar.extui (Scalar.cmpi .slt t 15#32)) 0#32

/-- A row this task owns, and its place in the staging buffer. -/
structure RowOK (r s : BitVec 32) : Prop where
  lo : 1024 ≤ r.toNat
  hi : r.toNat < 2048
  slot : s.toNat < 32

/-! ## Their values -/

theorem lo_closed : ∀ n : Fin 1024, (loW (BitVec.ofNat 32 (1024 + n.val))).toNat = 2 * n.val + 2
    ∧ (t0W (BitVec.ofNat 32 (1024 + n.val))).toNat = min ((2 * n.val + 2) / 128) 15
    ∧ (shW (BitVec.ofNat 32 (1024 + n.val))).toNat = 1024 - n.val := by decide +kernel

theorem mid_closed : ∀ n : Fin 16, (midLoop (BitVec.ofNat 32 n.val)).trips = 14 - n.val
    ∧ (midLoop (BitVec.ofNat 32 n.val)).OK ∧ (remLoop (BitVec.ofNat 32 n.val)).OK
    ∧ (remLoop (BitVec.ofNat 32 n.val)).trips = 0
    ∧ (lastW (BitVec.ofNat 32 n.val) = 1#1 ↔ n.val < 15)
    ∧ ∀ k : Fin 14, (midCol (BitVec.ofNat 32 n.val) (Scf.iv 0#32 1#32 k.val)).toNat = (n.val + 1 + k.val) * 128 := by decide +kernel

section Vals
variable {r s : BitVec 32} (h : RowOK r s)
include h

theorem RowOK.word : BitVec.ofNat 32 (1024 + (r.toNat - 1024)) = r := by
  have h1 := h.lo
  apply BitVec.eq_of_toNat_eq
  rw [BitVec.toNat_ofNat, Nat.mod_eq_of_lt (by have := h.hi; omega)]
  omega

theorem RowOK.loW_val : (loW r).toNat = 2 * r.toNat - 2046 := by
  have h1 := h.lo
  have h2 := h.hi
  have := (lo_closed ⟨r.toNat - 1024, by omega⟩).1
  rw [h.word] at this
  rw [this]; dsimp only; omega

theorem RowOK.t0W_val : (t0W r).toNat = min ((2 * r.toNat - 2046) / 128) 15 := by
  have h1 := h.lo
  have h2 := h.hi
  have := (lo_closed ⟨r.toNat - 1024, by omega⟩).2.1
  rw [h.word] at this
  rw [this]; dsimp only
  rw [show 2 * (r.toNat - 1024) + 2 = 2 * r.toNat - 2046 by omega]

theorem RowOK.shW_val : (shW r).toNat = 2048 - r.toNat := by
  have h1 := h.lo
  have h2 := h.hi
  have := (lo_closed ⟨r.toNat - 1024, by omega⟩).2.2
  rw [h.word] at this
  rw [this]; dsimp only; omega

theorem RowOK.t0W_lt : (t0W r).toNat < 16 := by rw [h.t0W_val]; omega

theorem RowOK.t0_word : BitVec.ofNat 32 (t0W r).toNat = t0W r := by simp

theorem RowOK.mid : (midLoop (t0W r)).trips = 14 - (t0W r).toNat
    ∧ (midLoop (t0W r)).OK ∧ (remLoop (t0W r)).OK ∧ (remLoop (t0W r)).trips = 0
    ∧ (lastW (t0W r) = 1#1 ↔ (t0W r).toNat < 15)
    ∧ ∀ k : Fin 14, (midCol (t0W r) (Scf.iv 0#32 1#32 k.val)).toNat = ((t0W r).toNat + 1 + k.val) * 128 := by
  have := mid_closed ⟨(t0W r).toNat, h.t0W_lt⟩
  dsimp only at this
  rwa [h.t0_word] at this

theorem RowOK.jb_val : (Scalar.muli (t0W r) 128#32).toNat = (t0W r).toNat * 128 := by
  have := h.t0W_lt
  simp only [Scalar.muli, IntOp.muli, BitVec.toNat_mul, BitVec.toNat_ofNat]
  omega

end Vals

/-- A column word moved by a constant. -/
theorem add_val {a : BitVec 32} {n c : ℕ} (ha : a.toNat = n) (hn : n < 2 ^ 16) (hc : c < 2 ^ 16) :
    (Scalar.addi a (BitVec.ofNat 32 c)).toNat = n + c := by
  simp only [Scalar.addi, IntOp.addi, BitVec.toNat_add, BitVec.toNat_ofNat, ha]
  omega

theorem add_val' {a b : BitVec 32} {n c : ℕ} (ha : a.toNat = n) (hb : b.toNat = c) (hn : n < 2 ^ 16) (hc : c < 2 ^ 16) :
    (Scalar.addi a b).toNat = n + c := by
  simp only [Scalar.addi, IntOp.addi, BitVec.toNat_add, ha, hb]
  omega

/-! ## The program of a row -/

section Prog
variable {c : Fin τ.nSC} {t : Fin τ.nSub}

local notation "Pr" => Prog (TpuEff nD τ sig (Elt F) Λ₀ (Proc.scVector c t)) Unit
local notation "PB" => Memref sig Kind.scVector CoreSpace.vmem S32x2048 EltTy.f32
local notation "PA" => Memref sig Kind.scVector CoreSpace.vmem S4096 EltTy.f32

/-- `f 0`, then `f 1`, and so on. -/
def seqN : (n : ℕ) → (Fin n → Pr) → Pr
  | 0, _ => pure ()
  | n + 1, f => do f 0; seqN n fun k => f k.succ

/-- Where sixteen staged elements lie, and where sixteen of the sums lie. -/
abbrev bOff (s col : BitVec 32) : Fin 2 → ℕ := ![(Scalar.indexCast s).toNat, (Scalar.indexCast col).toNat]
abbrev aOff (col : BitVec 32) : Fin 1 → ℕ := ![(Scalar.indexCast col).toNat]

/-- Sixteen staged elements added onto sixteen of the sums. -/
def addChunk (b : PB) (a : PA) (ob : Fin 2 → ℕ) (hb : ∀ x, ob x + S1x16.size x ≤ S32x2048.size x)
    (oa : Fin 1 → ℕ) (ha : ∀ x, oa x + S16.size x ≤ S4096.size x) : Pr := do
  let x : Vec F S1x16 .f32 ← Prog.lift (.load b (Rect.unit (s := S32x2048) ob S1x16.size hb).toLoadRect (View.loadsAt_vmem h_S1x16))
  let g : Vec F S16 .f32 ← Prog.lift (.load a (Rect.unit (s := S4096) oa S16.size ha).toLoadRect (View.loadsAt_vmem h_S16))
  let _ : Vec F S16 .f32 ← Prog.lift (.load a (Rect.unit (s := S4096) oa S16.size ha).toLoadRect (View.loadsAt_vmem h_S16))
  Prog.lift (.store a (Rect.unit (s := S4096) oa S16.size ha) (addf g (shapeCast S16 x shapeCasts_S1x16_S16)) Finset.univ
    (View.stores_vmem_bits_univ h_S16 rfl) (.inl rfl))

/-- Sixteen staged elements, those with their flag set, added onto the sums at sixteen given places. -/
def maskChunk (b : PB) (a : PA) (ob : Fin 2 → ℕ) (hb : ∀ x, ob x + S1x16.size x ≤ S32x2048.size x)
    (idx : IVec S16 32) (mask : IVec S16 1) (P : Prop) (dP : Decidable P)
    (hP : P → ∀ a x, ((![idx] : Fin 1 → IVec S16 32) a x).toNat < S4096.size a) : Pr := do
  let x : Vec F S1x16 .f32 ← Prog.lift (.load b (Rect.unit (s := S32x2048) ob S1x16.size hb).toLoadRect (View.loadsAt_vmem h_S1x16))
  have h : P := (← Prog.lift (TpuEff.assume P dP)).down
  SparseCore.vectorStoreIdx a ![idx] (shapeCast S16 x shapeCasts_S1x16_S16) mask true (hP h) (View.stores_vmem_bits_univ h_S4096 rfl)

/-- The columns of a chunk's sixteen lanes, -/
def colV (v6 : IVec S16 32) (col : BitVec 32) : IVec S16 32 := addi v6 (broadcast S16 col)
/-- the places they are added at, -/
def idxV (v6 : IVec S16 32) (col sh : BitVec 32) : IVec S16 32 := addi (colV v6 col) (broadcast S16 sh)
/-- the flags of a chunk of the first tile, -/
def maskFst (v6 : IVec S16 32) (col lo : BitVec 32) : IVec S16 1 :=
  andi (cmpi .sge (colV v6 col) (broadcast S16 lo)) (cmpi .slt (colV v6 col) (broadcast S16 2047#32))
/-- and those of the row's last chunk. -/
def maskLst (v6 : IVec S16 32) (col : BitVec 32) : IVec S16 1 := cmpi .slt (colV v6 col) (broadcast S16 2047#32)

/-- Chunk `k` of the first tile begins at this column, -/
abbrev fstCol (r : BitVec 32) (k : ℕ) : BitVec 32 := Scalar.addi (Scalar.muli (t0W r) 128#32) (BitVec.ofNat 32 (16 * k))
/-- chunk `k` of whole tile `j` at this one, -/
abbrev midChunk (r : BitVec 32) (j k : ℕ) : BitVec 32 := Scalar.addi (midCol (t0W r) (Scf.iv 0#32 1#32 j)) (BitVec.ofNat 32 (16 * k))
/-- and chunk `k` of the last tile at this one. -/
abbrev lstCol (k : ℕ) : BitVec 32 := BitVec.ofNat 32 (1920 + 16 * k)

theorem fst_val {r s : BitVec 32} (h : RowOK r s) (k : Fin 8) : (fstCol r k.val).toNat = (t0W r).toNat * 128 + 16 * k.val :=
  add_val h.jb_val (by have := h.t0W_lt; omega) (by omega)

theorem mid_val {r s : BitVec 32} (h : RowOK r s) {j : ℕ} (hj : j < 14 - (t0W r).toNat) (k : Fin 8) :
    (midChunk r j k.val).toNat = ((t0W r).toNat + 1 + j) * 128 + 16 * k.val :=
  add_val (h.mid.2.2.2.2.2 ⟨j, by omega⟩) (by omega) (by omega)

theorem bOff_inb {s col : BitVec 32} (hs : s.toNat < 32) (hc : col.toNat + 16 ≤ 2048) :
    ∀ x, bOff s col x + S1x16.size x ≤ S32x2048.size x := by
  have e1 : (Scalar.indexCast s).toNat = s.toNat := by simp [Scalar.indexCast]
  have e2 : (Scalar.indexCast col).toNat = col.toNat := by simp [Scalar.indexCast]
  intro x
  match x with
  | 0 => show (Scalar.indexCast s).toNat + 1 ≤ 32; omega
  | 1 => show (Scalar.indexCast col).toNat + 16 ≤ 2048; omega

theorem aOff_inb {col : BitVec 32} (hc : col.toNat + 16 ≤ 4096) : ∀ x, aOff col x + S16.size x ≤ S4096.size x := by
  have e2 : (Scalar.indexCast col).toNat = col.toNat := by simp [Scalar.indexCast]
  intro x
  match x with
  | 0 => show (Scalar.indexCast col).toNat + 16 ≤ 4096; omega

/-- Where a chunk moved by `sh` begins among the sums. -/
abbrev movedOff (col sh : BitVec 32) : Fin 1 → ℕ := aOff (Scalar.addi col sh)

theorem moved_inb {r s : BitVec 32} (h : RowOK r s) {col : BitVec 32} {n : ℕ} (hc : col.toNat = n) (hn : n + 16 ≤ 2048) :
    ∀ x, movedOff col (shW r) x + S16.size x ≤ S4096.size x := by
  have h1 := h.lo
  have h2 := h.hi
  refine aOff_inb ?_
  rw [add_val' hc h.shW_val (by omega) (by omega)]
  omega

theorem lst_val (k : Fin 8) : (lstCol k.val).toNat = 1920 + 16 * k.val := by
  simp only [lstCol, BitVec.toNat_ofNat]; omega

/-- A whole tile's chunks. -/
def midTile (b : PB) (a : PA) (r s : BitVec 32) (h : RowOK r s) (j : ℕ) (hj : j < 14 - (t0W r).toNat) : Pr :=
  seqN 8 fun k => addChunk b a (bOff s (midChunk r j k.val))
    (bOff_inb h.slot (by rw [mid_val h hj k]; omega))
    (movedOff (midChunk r j k.val) (shW r)) (moved_inb h (mid_val h hj k) (by omega))

/-- The first tile's chunks. -/
def fstTile (b : PB) (a : PA) (v6 : IVec S16 32) (r s : BitVec 32) (h : RowOK r s)
    (P : Fin 8 → IVec S16 32 → Prop) (dP : ∀ k v, Decidable (P k v))
    (hP : ∀ k v, P k v → ∀ a x, ((![v] : Fin 1 → IVec S16 32) a x).toNat < S4096.size a) : Pr :=
  seqN 8 fun k => maskChunk b a (bOff s (fstCol r k.val)) (bOff_inb h.slot (by rw [fst_val h k]; have := h.t0W_lt; omega))
    (idxV v6 (fstCol r k.val) (shW r)) (maskFst v6 (fstCol r k.val) (loW r)) (P k _) (dP k _) (hP k _)

/-- The last tile's chunks but its last. -/
def lstTile (b : PB) (a : PA) (r s : BitVec 32) (h : RowOK r s) : Pr :=
  seqN 7 fun k => addChunk b a (bOff s (lstCol k.val)) (bOff_inb h.slot (by rw [lst_val ⟨k.val, by omega⟩]; dsimp only; omega))
    (movedOff (lstCol k.val) (shW r)) (moved_inb h (lst_val ⟨k.val, by omega⟩) (by dsimp only; omega))

/-- The program of row `r`, staged in line `s`: the first tile's chunks, the whole tiles' and, when the row's first
    tile is not its last, the last tile's. `P`, `P'` are the checks the program makes of the places its flagged additions go to,
    and `rem` the region of the remainder loop. -/
def rowProg (b : PB) (a : PA) (v6 : IVec S16 32) (r s : BitVec 32) (h : RowOK r s)
    (P : Fin 8 → IVec S16 32 → Prop) (dP : ∀ k v, Decidable (P k v))
    (hP : ∀ k v, P k v → ∀ a x, ((![v] : Fin 1 → IVec S16 32) a x).toNat < S4096.size a)
    (P' : IVec S16 32 → Prop) (dP' : ∀ v, Decidable (P' v))
    (hP' : lastW (t0W r) = 1#1 → ∀ v, P' v → ∀ a x, ((![v] : Fin 1 → IVec S16 32) a x).toNat < S4096.size a)
    (rem : Fin (remLoop (t0W r)).trips → Unit → Pr) : Pr := do
  fstTile b a v6 r s h P dP hP
  Scf.Loop.for (midLoop (t0W r)) h.mid.2.1 ⟨⟩ fun j _ => midTile b a r s h j.val (lt_of_lt_of_eq j.isLt h.mid.1)
  Scf.Loop.for (remLoop (t0W r)) h.mid.2.2.1 ⟨⟩ rem
  if hl : lastW (t0W r) = 1#1 then do
    lstTile b a r s h
    maskChunk b a (bOff s 2032#32) (bOff_inb h.slot (by decide)) (idxV v6 2032#32 (shW r)) (maskLst v6 2032#32) (P' _) (dP' _) (hP' hl _)
    pure ⟨⟩
  else pure ⟨⟩
  pure ⟨⟩

/-- The check a chunk's places pass: each is a place among the sums. -/
def InSums (v : IVec S16 32) : Prop := ∀ a x, ((![v] : Fin 1 → IVec S16 32) a x).toNat < S4096.size a

end Prog

/-! ## The printed regions are that program -/

section Print
variable (i : grid0.Coords)
  (arg2 : Memref sig .scVector .hbm S2048x2048 .f32) (harg2 : arg2.IsWhole) (arg3 : Memref sig .scVector .hbm S32x4096 .f32) (harg3 : arg3.IsWhole)
  (arg4 : Memref sig .scVector .vmem S32x2048 .f32) (harg4 : arg4.IsWhole) (arg5 : Memref sig .scVector .vmem S4096 .f32) (harg5 : arg5.IsWhole)
  (arg6 arg7 v29_r0 : DmaSems sig S_)

/-- The first row of a block of sixteen, for the task's first block -/
def baseA : BitVec 32 := Scalar.muli (Scalar.addi 64#32 (Scalar.addi (Scalar.muli (BitVec.ofNat 32 (i 0).val) 16#32) (BitVec.ofNat 32 (i 1).val))) 16#32
/-- and for its second. -/
def baseB : BitVec 32 := Scalar.muli (Scalar.subi 127#32 (Scalar.addi (Scalar.muli (BitVec.ofNat 32 (i 0).val) 16#32) (BitVec.ofNat 32 (i 1).val))) 16#32

def rowA (k : ℕ) : BitVec 32 := Scalar.addi (baseA i) (Scf.iv 0#32 1#32 k)
def slotA (k : ℕ) : BitVec 32 := Scalar.addi 0#32 (Scf.iv 0#32 1#32 k)

def rowB (k : ℕ) : BitVec 32 := Scalar.addi (baseB i) (Scf.iv 0#32 1#32 k)
def slotB (k : ℕ) : BitVec 32 := Scalar.addi 16#32 (Scf.iv 0#32 1#32 k)

theorem rows_closed : ∀ (i : grid0.Coords) (k : Fin 16),
    (rowA i k.val).toNat = (64 + 16 * (i 0).val + (i 1).val) * 16 + k.val ∧ (slotA k.val).toNat = k.val
    ∧ (rowB i k.val).toNat = (127 - (16 * (i 0).val + (i 1).val)) * 16 + k.val ∧ (slotB k.val).toNat = 16 + k.val := by decide +kernel

theorem wid_lt : 16 * (i 0).val + (i 1).val < 32 := by
  have h0 : (i 0).val < 2 := (i 0).isLt
  have h1 : (i 1).val < 16 := (i 1).isLt
  omega

theorem trips_A : k0_t2_loop.trips = 16 := by decide +kernel
theorem trips_B : k0_t5_loop.trips = 16 := by decide +kernel

theorem rowA_ok (k : Fin k0_t2_loop.trips) : RowOK (rowA i k.val) (slotA k.val) := by
  obtain ⟨h1, h2, -, -⟩ := rows_closed i ⟨k.val, trips_A ▸ k.isLt⟩
  have hk : k.val < 16 := lt_of_lt_of_eq k.isLt trips_A
  have hw := wid_lt i
  dsimp only at h1 h2
  constructor <;> omega

theorem rowB_ok (k : Fin k0_t5_loop.trips) : RowOK (rowB i k.val) (slotB k.val) := by
  obtain ⟨-, -, h1, h2⟩ := rows_closed i ⟨k.val, trips_B ▸ k.isLt⟩
  have hk : k.val < 16 := lt_of_lt_of_eq k.isLt trips_B
  have hw := wid_lt i
  dsimp only at h1 h2
  constructor <;> omega

def remA (k : Fin k0_t2_loop.trips) : Fin (remLoop (t0W (rowA i k.val))).trips → Unit → Prog (TpuEff nD τ sig (Elt F) Λ₀ (.scVector ((i 0).castLE hcore0) ((i 1).castLE hsub0))) Unit :=
  k0_t4_body i arg2 harg2 arg3 harg3 arg4 harg4 arg5 harg5 arg6 arg7 v29_r0 k (slotA k.val) (shW (rowA i k.val))
    (Scalar.addi (t0W (rowA i k.val)) 1#32) (remLoop (t0W (rowA i k.val))).lb

theorem k0_t2_body_eq (v6 : IVec S16 32) (k : Fin k0_t2_loop.trips) :
    k0_t2_body (F := F) i arg2 harg2 arg3 harg3 arg4 harg4 arg5 harg5 arg6 arg7 v29_r0 v6 (baseA i) 0#32 k ()
      = rowProg arg4 arg5 v6 (rowA i k.val) (slotA k.val) (rowA_ok i k)
          (fun _ => k0_chk1) (fun _ => k0_chk1.dec) (fun _ _ h => h)
          (k0_chk9 i k) (k0_chk9.dec i k) (fun hl _ h => h hl)
          (remA i arg2 harg2 arg3 harg3 arg4 harg4 arg5 harg5 arg6 arg7 v29_r0 k) := rfl

def remB (k : Fin k0_t5_loop.trips) : Fin (remLoop (t0W (rowB i k.val))).trips → Unit → Prog (TpuEff nD τ sig (Elt F) Λ₀ (.scVector ((i 0).castLE hcore0) ((i 1).castLE hsub0))) Unit :=
  k0_t7_body i arg2 harg2 arg3 harg3 arg4 harg4 arg5 harg5 arg6 arg7 v29_r0 k (slotB k.val) (shW (rowB i k.val))
    (Scalar.addi (t0W (rowB i k.val)) 1#32) (remLoop (t0W (rowB i k.val))).lb

theorem k0_t5_body_eq (v6 : IVec S16 32) (k : Fin k0_t5_loop.trips) :
    k0_t5_body (F := F) i arg2 harg2 arg3 harg3 arg4 harg4 arg5 harg5 arg6 arg7 v29_r0 v6 (baseB i) k ()
      = rowProg arg4 arg5 v6 (rowB i k.val) (slotB k.val) (rowB_ok i k)
          (fun _ => k0_chk10) (fun _ => k0_chk10.dec) (fun _ _ h => h)
          (k0_chk18 i k) (k0_chk18.dec i k) (fun hl _ h => h hl)
          (remB i arg2 harg2 arg3 harg3 arg4 harg4 arg5 harg5 arg6 arg7 v29_r0 k) := rfl

end Print

end Cert.KernelIdeal.Row
-- ==== Proof.Sc.Value.lean ====
module

public import proofs.«01_k».proof.Proof.Sc.Row
public import Idealize.ShloMosaic.Lib.Writes

@[expose] public section

set_option maxRecDepth 16384

noncomputable section

/-! What a row does to the sums, as a function: every kept element of the row is added onto one place of the sums,
    no two onto the same one. Stated over any float values, with the operation each column is added by. -/

namespace Cert.KernelIdeal.Row

open Idealize.ShloMosaic Idealize.SL.Sem Cert.KernelIdeal.Gen

variable {F : FTy → Type} [FloatOps F]

/-- The sums, by place. -/
abbrev Sums (F : FTy → Type) : Type := S4096.Idx → F .f32

/-- The tile row `r` starts in. -/
def tile0 (r : ℕ) : ℕ := min ((2 * r - 2046) / 128) 15

/-- How column `j` of row `r` is added: by the flagged addition in the first tile and in the last chunk, by the plain
    addition elsewhere. -/
def comb (r j : ℕ) (g x : F .f32) : F .f32 :=
  if j / 128 = tile0 r ∨ 2032 ≤ j then FloatOps.idxAddf g x else FloatOps.addf g x

/-- Row `r` has column `j` to add onto place `b`, among the columns before `J`. -/
def Keeps (r J b j : ℕ) : Prop := b + r = j + 2048 ∧ 2 * r - 2046 ≤ j ∧ j < J ∧ j < 2047

instance (r J b j : ℕ) : Decidable (Keeps r J b j) := by unfold Keeps; infer_instance

/-- The sums after the columns before `J` of row `r`, holding `xr`, from the sums `g`. -/
def rowUpd (r : ℕ) (xr : ℕ → F .f32) (J : ℕ) (g : Sums F) : Sums F := fun b =>
  if Keeps r J (b 0).val ((b 0).val + r - 2048) then comb r ((b 0).val + r - 2048) (g b) (xr ((b 0).val + r - 2048)) else g b

theorem rowUpd_start {r : ℕ} (hr : r < 2048) (xr : ℕ → F .f32) (g : Sums F) : rowUpd r xr (tile0 r * 128) g = g := by
  funext b
  unfold rowUpd
  rw [if_neg]
  rintro ⟨-, h1, h2, -⟩
  unfold tile0 at h2
  omega

/-- Sixteen columns more: on the places they are added at, the addition; elsewhere nothing. -/
theorem rowUpd_chunk {r n : ℕ} (hr : r < 2048) (xr : ℕ → F .f32) (g h : Sums F)
    (hin : ∀ (b : S4096.Idx) (j : ℕ), n ≤ j → j < n + 16 → Keeps r (n + 16) (b 0).val j → h b = comb r j (rowUpd r xr n g b) (xr j))
    (hout : ∀ b : S4096.Idx, (∀ j, n ≤ j → j < n + 16 → ¬Keeps r (n + 16) (b 0).val j) → h b = rowUpd r xr n g b) :
    h = rowUpd r xr (n + 16) g := by
  funext b
  by_cases hk : Keeps r (n + 16) (b 0).val ((b 0).val + r - 2048)
  · by_cases hn : n ≤ (b 0).val + r - 2048
    · rw [hin b _ hn hk.2.2.1 hk]
      simp only [rowUpd]
      rw [if_pos hk, if_neg (fun h' => by have := h'.2.2.1; omega)]
    · rw [hout b]
      · simp only [rowUpd]
        rw [if_pos hk, if_pos ⟨hk.1, hk.2.1, by omega, hk.2.2.2⟩]
      · intro j h1 h2 h3
        have := h3.1; have := hk.1
        omega
  · rw [hout b]
    · simp only [rowUpd]
      rw [if_neg hk, if_neg (fun h' => hk ⟨h'.1, h'.2.1, by have := h'.2.2.1; omega, h'.2.2.2⟩)]
    · intro j h1 h2 h3
      apply hk
      have := h3.1
      rw [show (b 0).val + r - 2048 = j by omega]
      exact h3

/-! ## A flagged chunk -/

section Scatter
variable {e : EltTy}

/-- A lane's step of the flagged additions, at one place. -/
def laneStep (idx : IVec S16 32) (v : Vec F S16 .f32) (mask : IVec S16 1)
    (h : ∀ a x, ((![idx] : Fin 1 → IVec S16 32) a x).toNat < S4096.size a) (g : Sums F) (k : Fin 16) : Sums F :=
  let x : S16.Idx := Shape.ofLane (d := ![16]) k
  if mask x = 1 then
    let i := idxAt (s := S4096) ![idx] h x
    let y := FloatOps.idxAddf (g i) (v x)
    fun j => if (j 0).val = (i 0).val then y else g j
  else g

theorem storeIdx_fold (f : Sums F) (idx : IVec S16 32) (v : Vec F S16 .f32) (mask : IVec S16 1)
    (h : ∀ a x, ((![idx] : Fin 1 → IVec S16 32) a x).toNat < S4096.size a) :
    storeIdx (F := F) (s := S4096) (e := .f32) f ![idx] v mask true h = (List.finRange 16).foldl (laneStep idx v mask h) f := by
  unfold storeIdx
  congr 1
  funext g k
  unfold laneStep
  dsimp only [Elt.idxAdd]
  refine if_congr Iff.rfl ?_ rfl
  funext j
  rw [if_pos rfl]
  by_cases hj : (j 0).val = (idxAt (s := S4096) ![idx] h (Shape.ofLane (d := ![16]) k) 0).val
  · exact (if_pos fun a => by obtain rfl : a = 0 := Subsingleton.elim _ _; exact hj).trans (if_pos hj).symm
  · exact (if_neg fun h' => hj (h' 0)).trans (if_neg hj).symm

variable (idx : IVec S16 32) (v : Vec F S16 .f32) (mask : IVec S16 1)
  (h : ∀ a x, ((![idx] : Fin 1 → IVec S16 32) a x).toNat < S4096.size a)

/-- A lane is not for place `b`: its flag is clear or its place another. -/
def Misses (b : S4096.Idx) (k : Fin 16) : Prop :=
  mask (Shape.ofLane (d := ![16]) k) = 1 → (b 0).val ≠ (idx (Shape.ofLane (d := ![16]) k)).toNat

theorem laneStep_miss {b : S4096.Idx} {k : Fin 16} (hm : Misses idx mask b k) (g : Sums F) : laneStep idx v mask h g k b = g b := by
  unfold laneStep
  dsimp only
  split
  · rename_i h1
    dsimp only
    rw [if_neg]
    intro h2
    exact hm h1 h2
  · rfl

theorem laneStep_hit {b : S4096.Idx} {k : Fin 16} (h1 : mask (Shape.ofLane (d := ![16]) k) = 1)
    (h2 : (b 0).val = (idx (Shape.ofLane (d := ![16]) k)).toNat) (g : Sums F) :
    laneStep idx v mask h g k b = FloatOps.idxAddf (g b) (v (Shape.ofLane (d := ![16]) k)) := by
  unfold laneStep
  rw [if_pos h1]
  have hb : b = idxAt (s := S4096) ![idx] h (Shape.ofLane (d := ![16]) k) := by
    funext a
    obtain rfl : a = 0 := Subsingleton.elim _ _
    exact Fin.ext h2
  refine (if_pos (by rw [← hb])).trans ?_
  rw [← hb]

theorem fold_miss {b : S4096.Idx} : ∀ (l : List (Fin 16)) (g : Sums F), (∀ k ∈ l, Misses idx mask b k) →
    l.foldl (laneStep idx v mask h) g b = g b
  | [], _, _ => rfl
  | k :: l, g, hl => by
    rw [List.foldl_cons, fold_miss l _ fun k' hk' => hl k' (List.mem_cons_of_mem _ hk'), laneStep_miss idx v mask h (hl k List.mem_cons_self)]

theorem fold_hit {b : S4096.Idx} {k : Fin 16} (h1 : mask (Shape.ofLane (d := ![16]) k) = 1)
    (h2 : (b 0).val = (idx (Shape.ofLane (d := ![16]) k)).toNat) (hne : ∀ k', k' ≠ k → Misses idx mask b k') :
    ∀ (l : List (Fin 16)) (g : Sums F), l.Nodup → k ∈ l →
      l.foldl (laneStep idx v mask h) g b = FloatOps.idxAddf (g b) (v (Shape.ofLane (d := ![16]) k))
  | [], _, _, hk => absurd hk List.not_mem_nil
  | k' :: l, g, hnd, hk => by
    rw [List.foldl_cons]
    obtain ⟨hn, hnd'⟩ := List.nodup_cons.mp hnd
    by_cases hkk : k' = k
    · subst hkk
      rw [fold_miss idx v mask h l _ fun k'' hk'' => hne k'' (by rintro rfl; exact hn hk''), laneStep_hit idx v mask h h1 h2]
    · rw [fold_hit h1 h2 hne l _ hnd' ((List.mem_cons.mp hk).resolve_left (Ne.symm hkk)), laneStep_miss idx v mask h (hne k' hkk)]

/-- A flagged chunk carries the sums sixteen columns on. -/
theorem storeIdx_chunk {r n : ℕ} (hr : r < 2048) (hn : n + 16 ≤ 2048) (xr : ℕ → F .f32) (g : Sums F)
    (hidx : ∀ k : Fin 16, (idx (Shape.ofLane (d := ![16]) k)).toNat = n + k.val + (2048 - r))
    (hmask : ∀ k : Fin 16, mask (Shape.ofLane (d := ![16]) k) = 1 ↔ 2 * r - 2046 ≤ n + k.val ∧ n + k.val < 2047)
    (hv : ∀ k : Fin 16, v (Shape.ofLane (d := ![16]) k) = xr (n + k.val))
    (hcomb : ∀ k : Fin 16, (n + k.val) / 128 = tile0 r ∨ 2032 ≤ n + k.val) :
    storeIdx (F := F) (s := S4096) (e := .f32) (rowUpd r xr n g) ![idx] v mask true h = rowUpd r xr (n + 16) g := by
  rw [storeIdx_fold]
  refine rowUpd_chunk hr xr g _ ?_ ?_
  · intro b j h1 h2 hk
    obtain ⟨k, rfl⟩ : ∃ k : Fin 16, j = n + k.val := ⟨⟨j - n, by omega⟩, by dsimp only; omega⟩
    have hb := hk.1
    rw [fold_hit idx v mask h ((hmask k).mpr ⟨hk.2.1, hk.2.2.2⟩) (by rw [hidx k]; omega) _ _ _ (List.nodup_finRange 16) (List.mem_finRange k), hv k]
    · unfold comb; rw [if_pos (hcomb k)]
    · intro k' hne _ he
      rw [hidx k'] at he
      exact hne (Fin.ext (by omega))
  · intro b hb
    refine fold_miss idx v mask h _ _ fun k _ hm he => ?_
    rw [hidx k] at he
    rw [hmask k] at hm
    exact hb (n + k.val) (by omega) (by omega) ⟨by omega, hm.1, by omega, hm.2⟩

end Scatter

/-! ## A plain chunk -/

local notation "aM" => (Memref.whole cc0_scratch1 : Memref sig Kind.scVector CoreSpace.vmem S4096 EltTy.f32)

/-- A plain chunk carries the sums sixteen columns on. -/
theorem store_chunk {r n : ℕ} (hr : r < 2048) (hn : n + 16 ≤ 2047) (hlo : 2 * r - 2046 ≤ n) (xr : ℕ → F .f32) (g : Sums F)
    (oa : Fin 1 → ℕ) (ha : ∀ x, oa x + S16.size x ≤ S4096.size x) (hoa : oa 0 = n + (2048 - r))
    (v : Vec F S16 .f32) (hv : ∀ x : S16.Idx, v x = xr (n + (x 0).val))
    (hcomb : ∀ k, k < 16 → ¬((n + k) / 128 = tile0 r ∨ 2032 ≤ n + k)) :
    ((aM).access (Rect.unit (s := S4096) oa S16.size ha)).write (Elt F) (rowUpd r xr n g)
        (addf ((aM).view.readAt (Elt F) (Rect.unit (s := S4096) oa S16.size ha).toLoadRect (rowUpd r xr n g)) v) Finset.univ
      = rowUpd r xr (n + 16) g := by
  refine rowUpd_chunk hr xr g _ ?_ ?_
  · intro b j h1 h2 hk
    have hb := hk.1
    have hx := View.read_writes_cons_hit_of_coords (Val := Elt F) (aM).view (rowUpd r xr n g) (Rect.unit (s := S4096) oa S16.size ha)
      (addf ((aM).view.readAt (Elt F) (Rect.unit (s := S4096) oa S16.size ha).toLoadRect (rowUpd r xr n g)) v) []
      (Shape.ofLane (d := ![16]) ⟨j - n, by show j - n < 16; omega⟩) b (by
        intro a
        obtain rfl : a = (0 : Fin 1) := Subsingleton.elim (α := Fin 1) _ _
        show (b 0).val = oa 0 + 1 * (j - n)
        omega)
    refine Eq.trans (Eq.trans ?_ hx) ?_
    · rfl
    · unfold comb
      rw [if_neg (by have := hcomb (j - n) (by omega); rwa [show n + (j - n) = j by omega] at this)]
      show FloatOps.addf _ (v _) = _
      rw [hv]
      show FloatOps.addf _ (xr (n + (j - n))) = _
      rw [show n + (j - n) = j by omega]
      congr 1
      rw [View.readAt_apply]
      show rowUpd r xr n g _ = _
      congr 1
      funext a
      obtain rfl : a = (0 : Fin 1) := Subsingleton.elim (α := Fin 1) _ _
      apply Fin.ext
      show oa 0 + 1 * (j - n) = (b 0).val
      omega
  · intro b hb
    have hx := View.read_writes_cons_miss_of_axis (Val := Elt F) (aM).view (rowUpd r xr n g)
      ⟨Rect.unit (s := S4096) oa S16.size ha, (addf ((aM).view.readAt (Elt F) (Rect.unit (s := S4096) oa S16.size ha).toLoadRect (rowUpd r xr n g)) v)⟩ []
      b 0 (oa 0) 16 rfl rfl rfl (by
        by_contra hc
        refine hb ((b 0).val - (2048 - r)) (by omega) (by omega) ⟨by omega, by omega, by omega, by omega⟩)
    exact hx

end Cert.KernelIdeal.Row
-- ==== Proof.Sc.RowWp.lean ====
module

public import proofs.«01_k».proof.Proof.Sc.Value
public import Idealize.ShloMosaic.Lib.SparseCore.Quiescent
public import Idealize.ShloMosaic.Lib.SparseCore.Ops
public import Idealize.ShloMosaic.Lib.Pipeline.Value
public import Idealize.ShloMosaic.Lib.Tactic

@[expose] public section

set_option maxRecDepth 16384

noncomputable section

/-! A row's program takes the sums to the sums with the row's kept elements added, reading the staged row and changing
    nothing else. -/

namespace Cert.KernelIdeal.Row

open Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (d : Dev nD) (c : Fin τ.nSC) (t : Fin τ.nSub) (bd : Option 𝒱.V) (E : Set Name)

local notation "𝕄" => MT nD τ sig Ix (Elt F) Name U Lvl
local notation "bM" => (Memref.whole cc0_scratch0 : Memref sig Kind.scVector CoreSpace.vmem S32x2048 EltTy.f32)
local notation "aM" => (Memref.whole cc0_scratch1 : Memref sig Kind.scVector CoreSpace.vmem S4096 EltTy.f32)

/-- The sums held at `g`. -/
abbrev sumsP (g : Sums F) : sProp 𝕄 := (V d c t).loc cc0_scratch1 ↦{fullShare} (g : Buf (Elt F) ((V d c t).loc cc0_scratch1))

/-- The part `R` of the staging buffer held at `f`. -/
abbrev stageP (R : Finset S32x2048.Idx) (q : PosShare TreeShare) (f : S32x2048.Idx → F .f32) : sProp 𝕄 :=
  (V d c t).loc cc0_scratch0 ↦[(R : Finset (Idx ((V d c t).loc cc0_scratch0)))]{q} (f : Buf (Elt F) ((V d c t).loc cc0_scratch0))

/-- The staged line `s`, part of `R`, holds `xr`. -/
structure Staged (R : Finset S32x2048.Idx) (f : S32x2048.Idx → F .f32) (s : ℕ) (xr : ℕ → F .f32) : Prop where
  sub : ∀ b : S32x2048.Idx, (b 0).val = s → b ∈ R
  val : ∀ b : S32x2048.Idx, (b 0).val = s → f b = xr (b 1).val

variable {R : Finset S32x2048.Idx} {q : PosShare TreeShare} {f : S32x2048.Idx → F .f32} {s : ℕ} {xr : ℕ → F .f32}

theorem stage_sub (hst : Staged R f s xr) (ob : Fin 2 → ℕ) (hb : ∀ x, ob x + S1x16.size x ≤ S32x2048.size x) (h0 : ob 0 = s) :
    (bM).view.setOn (Rect.unit (s := S32x2048) ob S1x16.size hb).toLoadRect.set ⊆ R := by
  intro b hb'
  obtain ⟨y, hy, hyb⟩ := Finset.mem_map.mp hb'
  obtain rfl : y = b := hyb
  obtain ⟨j, hj, he⟩ := (LoadRect.mem_set _).mp hy 0
  refine hst.sub y ?_
  have hj' : j < 1 := hj
  have he' : (y 0).val = ob 0 + 1 * j := he
  omega

/-- What a chunk's load of the staged line reads, lane by lane. -/
theorem stage_read (hst : Staged R f s xr) (ob : Fin 2 → ℕ) (hb : ∀ x, ob x + S1x16.size x ≤ S32x2048.size x) (h0 : ob 0 = s) (x : S16.Idx) :
    shapeCast S16 ((bM).view.readAt (Elt F) (Rect.unit (s := S32x2048) ob S1x16.size hb).toLoadRect f) shapeCasts_S1x16_S16 x
      = xr (ob 1 + (x 0).val) := by
  refine (shapeCast_dropUnit_apply ![16] _ shapeCasts_S1x16_S16 x).trans ?_
  rw [View.readAt_apply]
  refine (hst.val _ ?_).trans (congrArg xr ?_)
  · show ob 0 + 1 * 0 = s
    omega
  · show ob 1 + 1 * (x 0).val = _
    omega

theorem wp_addChunk {r n : ℕ} (hr : r < 2048) (hn : n + 16 ≤ 2047) (hlo : 2 * r - 2046 ≤ n) (hst : Staged R f s xr) (g : Sums F)
    (ob : Fin 2 → ℕ) (hb : ∀ x, ob x + S1x16.size x ≤ S32x2048.size x) (h0 : ob 0 = s) (h1 : ob 1 = n)
    (oa : Fin 1 → ℕ) (ha : ∀ x, oa x + S16.size x ≤ S4096.size x) (hoa : oa 0 = n + (2048 - r))
    (hcomb : ∀ k, k < 16 → ¬((n + k) / 128 = tile0 r ∨ 2032 ≤ n + k)) :
    iprop(sumsP d c t (rowUpd r xr n g) ∗ stageP d c t R q f)
      ⊢ wp (M := 𝕄) frame (wpE defs 𝒱 (V d c t) bd) E (addChunk bM aM ob hb oa ha)
          fun _ => iprop(sumsP d c t (rowUpd r xr (n + 16) g) ∗ stageP d c t R q f) := by
  unfold addChunk
  simp only [Prog.lift, Prog.bind_op, Prog.bind_ret, Prog.pure_eq_ret]
  iintro ⟨Ha, Hb⟩
  iapply (wp_load (defs := defs) 𝒱 (V d c t) bd E (m := bM) (S := R) (q := q) (f := f) (stage_sub hst ob hb h0)) $$ Hb
  iintro Hb
  iapply (wp_load (defs := defs) 𝒱 (V d c t) bd E (m := aM) (S := Finset.univ) (q := fullShare) (Finset.subset_univ _)) $$ Ha
  iintro Ha
  iapply (wp_load (defs := defs) 𝒱 (V d c t) bd E (m := aM) (S := Finset.univ) (q := fullShare) (Finset.subset_univ _)) $$ Ha
  iintro Ha
  iapply (wp_store (defs := defs) 𝒱 (V d c t) bd E (m := aM) (r := Rect.unit (s := S4096) oa S16.size ha) (S := Finset.univ) (f := rowUpd r xr n g) (Finset.subset_univ _)) $$ Ha
  iintro Ha
  rw [store_chunk hr hn hlo xr g oa ha hoa _ (fun x => (stage_read hst ob hb h0 x).trans (by rw [h1])) hcomb]
  iapply (le_wp_ret _ _ _ _ _)
  isplitl [Ha] <;> iassumption

/-- The places of a chunk's lanes are places among the sums. -/
theorem inSums {r n : ℕ} (hlo : 1024 ≤ r) (hn : n + 16 ≤ 2048) {idx : IVec S16 32}
    (hidx : ∀ k : Fin 16, (idx (Shape.ofLane (d := ![16]) k)).toNat = n + k.val + (2048 - r)) : InSums idx := by
  intro a x
  obtain rfl : a = 0 := Subsingleton.elim _ _
  have hx : x = Shape.ofLane (d := ![16]) (x 0) := by
    funext a
    obtain rfl : a = 0 := Subsingleton.elim _ _
    rfl
  show (idx x).toNat < 4096
  have h16 : (x 0).val < 16 := (x 0).isLt
  rw [hx, hidx (x 0)]
  omega

theorem wp_maskChunk {r n : ℕ} (hlo : 1024 ≤ r) (hr : r < 2048) (hn : n + 16 ≤ 2048) (hst : Staged R f s xr) (g : Sums F)
    (ob : Fin 2 → ℕ) (hb : ∀ x, ob x + S1x16.size x ≤ S32x2048.size x) (h0 : ob 0 = s) (h1 : ob 1 = n)
    (idx : IVec S16 32) (mask : IVec S16 1) (P : Prop) (dP : Decidable P)
    (hP : P → ∀ a x, ((![idx] : Fin 1 → IVec S16 32) a x).toNat < S4096.size a) (hPI : InSums idx → P)
    (hidx : ∀ k : Fin 16, (idx (Shape.ofLane (d := ![16]) k)).toNat = n + k.val + (2048 - r))
    (hmask : ∀ k : Fin 16, mask (Shape.ofLane (d := ![16]) k) = 1 ↔ 2 * r - 2046 ≤ n + k.val ∧ n + k.val < 2047)
    (hcomb : ∀ k : Fin 16, (n + k.val) / 128 = tile0 r ∨ 2032 ≤ n + k.val) :
    iprop(sumsP d c t (rowUpd r xr n g) ∗ stageP d c t R q f)
      ⊢ wp (M := 𝕄) frame (wpE defs 𝒱 (V d c t) bd) E (maskChunk bM aM ob hb idx mask P dP hP)
          fun _ => iprop(sumsP d c t (rowUpd r xr (n + 16) g) ∗ stageP d c t R q f) := by
  unfold maskChunk
  simp only [Prog.lift, Prog.bind_op, Prog.bind_ret, Prog.pure_eq_ret]
  iintro ⟨Ha, Hb⟩
  iapply (wp_load (defs := defs) 𝒱 (V d c t) bd E (m := bM) (S := R) (q := q) (f := f) (stage_sub hst ob hb h0)) $$ Hb
  iintro Hb
  iapply (wp_assume (defs := defs) 𝒱 (V d c t) bd E (hPI (inSums hlo hn hidx)))
  rw [← Prog.bind_pure (SparseCore.vectorStoreIdx _ _ _ _ _ _ _)]
  iapply (SparseCore.wp_vectorStoreIdx (defs := defs) 𝒱 (V d c t) bd E (base := aM) (f := rowUpd r xr n g)) $$ [Ha]
  · rw [Memref.set_access_whole]
    iexact Ha
  iintro Ha
  rw [Memref.set_access_whole, Memref.read_access_whole, Memref.write_access_whole_univ,
    storeIdx_chunk idx _ mask _ hr hn xr g hidx hmask (fun k => (stage_read hst ob hb h0 _).trans (by rw [h1]; rfl)) hcomb]
  iapply (le_wp_ret _ _ _ _ _)
  isplitl [Ha] <;> iassumption

theorem wp_seqN (I : ℕ → sProp 𝕄) : ∀ (n : ℕ) (f : Fin n → Prog (TpuEff nD τ sig (Elt F) Λ₀ (Proc.scVector c t)) Unit) (m : ℕ),
    (∀ k : Fin n, I (m + k.val) ⊢ wp frame (wpE defs 𝒱 (V d c t) bd) E (f k) fun _ => I (m + k.val + 1)) →
    I m ⊢ wp frame (wpE defs 𝒱 (V d c t) bd) E (seqN n f) fun _ => I (m + n)
  | 0, _, m, _ => le_wp_ret frame (wpE defs 𝒱 (V d c t) bd) E _ (fun _ => I m)
  | n + 1, f, m, h => by
    unfold seqN
    rw [wp_bind]
    refine (h 0).trans (wp_mono _ _ _ fun _ => ?_)
    have := wp_seqN I n (fun k => f k.succ) (m + 1) fun k => by
      have := h k.succ
      rw [Fin.val_succ, show m + (k.val + 1) = m + 1 + k.val by omega] at this
      exact this
    rw [show m + (n + 1) = m + 1 + n by omega]
    exact this

/-- Chunks one after the other, each carrying the sums sixteen columns on. -/
theorem wp_chunks (r n m : ℕ) (g : Sums F) (f' : Fin m → Prog (TpuEff nD τ sig (Elt F) Λ₀ (Proc.scVector c t)) Unit)
    (h : ∀ k : Fin m, iprop(sumsP d c t (rowUpd r xr (n + 16 * k.val) g) ∗ stageP d c t R q f)
      ⊢ wp (M := 𝕄) frame (wpE defs 𝒱 (V d c t) bd) E (f' k) fun _ => iprop(sumsP d c t (rowUpd r xr (n + 16 * k.val + 16) g) ∗ stageP d c t R q f)) :
    iprop(sumsP d c t (rowUpd r xr n g) ∗ stageP d c t R q f)
      ⊢ wp (M := 𝕄) frame (wpE defs 𝒱 (V d c t) bd) E (seqN m f') fun _ => iprop(sumsP d c t (rowUpd r xr (n + 16 * m) g) ∗ stageP d c t R q f) := by
  have key := wp_seqN (Ix := Ix) (Name := Name) (U := U) (Lvl := Lvl) (defs := defs) 𝒱 d c t bd E
    (fun k => iprop(sumsP d c t (rowUpd r xr (n + 16 * k) g) ∗ stageP d c t R q f)) m f' 0 fun k => by
      have := h k
      rw [Nat.zero_add]
      exact this
  rw [show n + 16 * m = n + 16 * (0 + m) by omega]
  exact key

/-! ## The lanes' columns, places and flags -/

theorem slt_one {a b : BitVec 32} (ha : a.toNat < 2 ^ 16) (hb : b.toNat < 2 ^ 16) : IntOp.cmpi .slt a b = 1 ↔ a.toNat < b.toNat := by
  have h1 : a.toInt = a.toNat := BitVec.toInt_eq_toNat_of_lt (by omega)
  have h2 : b.toInt = b.toNat := BitVec.toInt_eq_toNat_of_lt (by omega)
  show BitVec.ofBool (a.slt b) = 1#1 ↔ _
  rw [BitVec.slt, h1, h2]
  by_cases h : a.toNat < b.toNat <;> simp [h]

theorem sge_one {a b : BitVec 32} (ha : a.toNat < 2 ^ 16) (hb : b.toNat < 2 ^ 16) : IntOp.cmpi .sge a b = 1 ↔ b.toNat ≤ a.toNat := by
  have h1 : a.toInt = a.toNat := BitVec.toInt_eq_toNat_of_lt (by omega)
  have h2 : b.toInt = b.toNat := BitVec.toInt_eq_toNat_of_lt (by omega)
  show BitVec.ofBool (b.sle a) = 1#1 ↔ _
  rw [BitVec.sle, h1, h2]
  by_cases h : b.toNat ≤ a.toNat <;> simp [h]

theorem and_one (a b : BitVec 1) : IntOp.andi a b = 1 ↔ a = 1 ∧ b = 1 := by
  revert a b; decide

/-- The lane numbers. -/
abbrev lanes : IVec S16 32 := iota .scVector S16 32 [0] iota_S16_d0_w32_scVector

theorem lanes_val (k : Fin 16) : lanes (Shape.ofLane (d := ![16]) k) = BitVec.ofNat 32 k.val := iota_single_apply _ _ _ _ _ _

section Lanes
variable {col sh lo : BitVec 32} {n : ℕ} (hc : col.toNat = n) (hn : n + 16 ≤ 2048)
include hc hn

theorem col_val (k : Fin 16) : (colV lanes col (Shape.ofLane (d := ![16]) k)).toNat = n + k.val := by
  show (lanes (Shape.ofLane (d := ![16]) k) + col).toNat = _
  rw [lanes_val, BitVec.toNat_add, BitVec.toNat_ofNat, hc]
  omega

theorem idx_val {r : ℕ} (hsh : sh.toNat = 2048 - r) (k : Fin 16) : (idxV lanes col sh (Shape.ofLane (d := ![16]) k)).toNat = n + k.val + (2048 - r) := by
  show (colV lanes col (Shape.ofLane (d := ![16]) k) + sh).toNat = _
  rw [BitVec.toNat_add, col_val hc hn, hsh]
  omega

theorem maskLst_iff (k : Fin 16) : maskLst lanes col (Shape.ofLane (d := ![16]) k) = 1 ↔ n + k.val < 2047 := by
  show IntOp.cmpi .slt (colV lanes col (Shape.ofLane (d := ![16]) k)) 2047#32 = 1 ↔ _
  rw [slt_one (by rw [col_val hc hn]; omega) (by decide), col_val hc hn]
  rfl

theorem maskFst_iff {l : ℕ} (hl : lo.toNat = l) (hl' : l < 4096) (k : Fin 16) :
    maskFst lanes col lo (Shape.ofLane (d := ![16]) k) = 1 ↔ l ≤ n + k.val ∧ n + k.val < 2047 := by
  show IntOp.andi (IntOp.cmpi .sge (colV lanes col (Shape.ofLane (d := ![16]) k)) lo) (maskLst lanes col (Shape.ofLane (d := ![16]) k)) = 1 ↔ _
  rw [and_one, maskLst_iff hc hn, sge_one (by rw [col_val hc hn]; omega) (by omega), col_val hc hn, hl]

end Lanes

/-! ## The row -/

theorem cast_val (a : BitVec 32) : (Scalar.indexCast a).toNat = a.toNat := by simp [Scalar.indexCast]

theorem moved_val {r s col : BitVec 32} (h : RowOK r s) {n : ℕ} (hc : col.toNat = n) (hn : n + 16 ≤ 2048) :
    movedOff col (shW r) 0 = n + (2048 - r.toNat) := by
  show (Scalar.indexCast (Scalar.addi col (shW r))).toNat = _
  have h1 := h.lo
  rw [cast_val, add_val' hc h.shW_val (by omega) (by omega)]

theorem RowOK.tile0_eq {r s : BitVec 32} (h : RowOK r s) : tile0 r.toNat = (t0W r).toNat := h.t0W_val.symm

theorem wp_midTile {r s : BitVec 32} (h : RowOK r s) (hst : Staged R f s.toNat xr) (g : Sums F) (j : ℕ) (hj : j < 14 - (t0W r).toNat) :
    iprop(sumsP d c t (rowUpd r.toNat xr (((t0W r).toNat + 1 + j) * 128) g) ∗ stageP d c t R q f)
      ⊢ wp (M := 𝕄) frame (wpE defs 𝒱 (V d c t) bd) E (midTile bM aM r s h j hj)
          fun _ => iprop(sumsP d c t (rowUpd r.toNat xr (((t0W r).toNat + 1 + (j + 1)) * 128) g) ∗ stageP d c t R q f) := by
  unfold midTile
  have ht := h.t0W_val
  have h2 := h.hi
  rw [show ((t0W r).toNat + 1 + (j + 1)) * 128 = ((t0W r).toNat + 1 + j) * 128 + 16 * 8 by omega]
  refine wp_chunks 𝒱 d c t bd E r.toNat _ 8 g _ fun k => ?_
  have hk := k.isLt
  refine wp_addChunk 𝒱 d c t bd E h.hi (by omega) (by omega) hst g _ _ (cast_val s) ((cast_val _).trans (mid_val h hj k)) _ _
    (moved_val h (mid_val h hj k) (by omega)) fun l hl => ?_
  rw [h.tile0_eq]
  omega

theorem wp_fstChunk {r s : BitVec 32} (h : RowOK r s) (hst : Staged R f s.toNat xr) (g : Sums F) (k : Fin 8)
    (P : IVec S16 32 → Prop) (dP : ∀ v, Decidable (P v))
    (hP : ∀ v, P v → ∀ a x, ((![v] : Fin 1 → IVec S16 32) a x).toNat < S4096.size a) (hPI : ∀ v, InSums v → P v)
    (hb : ∀ x, bOff s (fstCol r k.val) x + S1x16.size x ≤ S32x2048.size x) :
    iprop(sumsP d c t (rowUpd r.toNat xr ((t0W r).toNat * 128 + 16 * k.val) g) ∗ stageP d c t R q f)
      ⊢ wp (M := 𝕄) frame (wpE defs 𝒱 (V d c t) bd) E (maskChunk bM aM (bOff s (fstCol r k.val)) hb
            (idxV lanes (fstCol r k.val) (shW r)) (maskFst lanes (fstCol r k.val) (loW r)) (P _) (dP _) (hP _))
          fun _ => iprop(sumsP d c t (rowUpd r.toNat xr ((t0W r).toNat * 128 + 16 * k.val + 16) g) ∗ stageP d c t R q f) := by
  have htl := h.t0W_lt
  have hlo := h.lo
  have hhi := h.hi
  have hk := k.isLt
  have hn : (t0W r).toNat * 128 + 16 * k.val + 16 ≤ 2048 := by omega
  have hc := fst_val h k
  refine wp_maskChunk 𝒱 d c t bd E hlo hhi hn hst g _ hb (cast_val s) ((cast_val _).trans hc) _ _ _ _ _ (hPI _) (idx_val hc hn h.shW_val)
    (maskFst_iff hc hn h.loW_val (by omega)) fun l => ?_
  rw [h.tile0_eq]
  left
  have := l.isLt
  omega

theorem wp_fstTile {r s : BitVec 32} (h : RowOK r s) (hst : Staged R f s.toNat xr) (g : Sums F)
    (P : Fin 8 → IVec S16 32 → Prop) (dP : ∀ k v, Decidable (P k v))
    (hP : ∀ k v, P k v → ∀ a x, ((![v] : Fin 1 → IVec S16 32) a x).toNat < S4096.size a) (hPI : ∀ k v, InSums v → P k v) :
    iprop(sumsP d c t g ∗ stageP d c t R q f)
      ⊢ wp (M := 𝕄) frame (wpE defs 𝒱 (V d c t) bd) E (fstTile bM aM lanes r s h P dP hP)
          fun _ => iprop(sumsP d c t (rowUpd r.toNat xr (((t0W r).toNat + 1) * 128) g) ∗ stageP d c t R q f) := by
  unfold fstTile
  rw [show ((t0W r).toNat + 1) * 128 = (t0W r).toNat * 128 + 16 * 8 by omega]
  refine BIBase.Entails.trans (Q := iprop(sumsP d c t (rowUpd r.toNat xr ((t0W r).toNat * 128) g) ∗ stageP d c t R q f)) ?_
    (wp_chunks 𝒱 d c t bd E r.toNat _ 8 g _ fun k => wp_fstChunk 𝒱 d c t bd E h hst g k (P k) (dP k) (hP k) (hPI k) _)
  rw [← h.tile0_eq, rowUpd_start h.hi]

theorem wp_lstTile {r s : BitVec 32} (h : RowOK r s) (hst : Staged R f s.toNat xr) (g : Sums F) (hl : (t0W r).toNat < 15) :
    iprop(sumsP d c t (rowUpd r.toNat xr 1920 g) ∗ stageP d c t R q f)
      ⊢ wp (M := 𝕄) frame (wpE defs 𝒱 (V d c t) bd) E (lstTile bM aM r s h)
          fun _ => iprop(sumsP d c t (rowUpd r.toNat xr 2032 g) ∗ stageP d c t R q f) := by
  have ht := h.t0W_val
  have h2 := h.hi
  unfold lstTile
  refine wp_chunks 𝒱 d c t bd E r.toNat 1920 7 g _ fun k => ?_
  have hk := k.isLt
  have hc : (lstCol k.val).toNat = 1920 + 16 * k.val := lst_val ⟨k.val, by omega⟩
  refine wp_addChunk 𝒱 d c t bd E h2 (by omega) (by omega) hst g _ _ (cast_val s) ((cast_val _).trans hc) _ _
    (moved_val h hc (by omega)) fun l hl' => ?_
  rw [h.tile0_eq]
  omega

/-- The last chunk of a row whose first tile is not its last. -/
theorem wp_lstChunk {r s : BitVec 32} (h : RowOK r s) (hst : Staged R f s.toNat xr) (g : Sums F) (hl : (t0W r).toNat < 15)
    (P : IVec S16 32 → Prop) (dP : ∀ v, Decidable (P v))
    (hP : ∀ v, P v → ∀ a x, ((![v] : Fin 1 → IVec S16 32) a x).toNat < S4096.size a) (hPI : ∀ v, InSums v → P v)
    (hb : ∀ x, bOff s 2032#32 x + S1x16.size x ≤ S32x2048.size x) :
    iprop(sumsP d c t (rowUpd r.toNat xr 2032 g) ∗ stageP d c t R q f)
      ⊢ wp (M := 𝕄) frame (wpE defs 𝒱 (V d c t) bd) E (maskChunk bM aM (bOff s 2032#32) hb
            (idxV lanes 2032#32 (shW r)) (maskLst lanes 2032#32) (P _) (dP _) (hP _))
          fun _ => iprop(sumsP d c t (rowUpd r.toNat xr 2048 g) ∗ stageP d c t R q f) := by
  have ht := h.t0W_val
  have hc : (2032#32).toNat = 2032 := rfl
  refine wp_maskChunk 𝒱 d c t bd E h.lo h.hi (n := 2032) (by omega) hst g _ hb (cast_val s) (cast_val _) _ _ _ _ _ (hPI _)
    (idx_val hc (by omega) h.shW_val) (fun k => (maskLst_iff hc (by omega) k).trans ⟨fun hk => ⟨by omega, hk⟩, fun hk => hk.2⟩) fun l => ?_
  right
  omega

/-- The row's program takes the sums to the sums with the row's kept elements added. -/
theorem wp_row {r s : BitVec 32} (h : RowOK r s) (hst : Staged R f s.toNat xr) (g : Sums F)
    (P : Fin 8 → IVec S16 32 → Prop) (dP : ∀ k v, Decidable (P k v))
    (hP : ∀ k v, P k v → ∀ a x, ((![v] : Fin 1 → IVec S16 32) a x).toNat < S4096.size a)
    (P' : IVec S16 32 → Prop) (dP' : ∀ v, Decidable (P' v))
    (hP' : lastW (t0W r) = 1#1 → ∀ v, P' v → ∀ a x, ((![v] : Fin 1 → IVec S16 32) a x).toNat < S4096.size a)
    (rem : Fin (remLoop (t0W r)).trips → Unit → Prog (TpuEff nD τ sig (Elt F) Λ₀ (Proc.scVector c t)) Unit)
    (hPI : ∀ k v, InSums v → P k v) (hPI' : ∀ v, InSums v → P' v) :
    iprop(sumsP d c t g ∗ stageP d c t R q f)
      ⊢ wp (M := 𝕄) frame (wpE defs 𝒱 (V d c t) bd) E (rowProg bM aM lanes r s h P dP hP P' dP' hP' rem)
          fun _ => iprop(sumsP d c t (rowUpd r.toNat xr 2048 g) ∗ stageP d c t R q f) := by
  have ht := h.t0W_val
  have htl := h.t0W_lt
  have hlo := h.lo
  have hhi := h.hi
  obtain ⟨hmt, -, -, hrt, hlast, -⟩ := h.mid
  unfold rowProg
  rw [wp_bind]
  refine (wp_fstTile 𝒱 d c t bd E h hst g P dP hP hPI).trans (wp_mono _ _ _ fun _ => ?_)
  iintro H
  iapply (Scf.wp_for_bind frame (wpE defs 𝒱 (V d c t) bd) E (midLoop (t0W r)).lb (midLoop (t0W r)).ub (midLoop (t0W r)).st h.mid.2.1 PUnit.unit
    (fun j _ => midTile bM aM r s h j.val (lt_of_lt_of_eq j.isLt h.mid.1))
    (fun j _ => iprop(sumsP d c t (rowUpd r.toNat xr (((t0W r).toNat + 1 + j) * 128) g) ∗ stageP d c t R q f))
    (fun j _ => wp_midTile (Ix := Ix) (Name := Name) (U := U) (Lvl := Lvl) (defs := defs) 𝒱 d c t bd E h hst g j.val (lt_of_lt_of_eq j.isLt h.mid.1))) $$ [H]
  · iexact H
  iintro %_ H
  iapply (Scf.wp_for_bind frame (wpE defs 𝒱 (V d c t) bd) E (remLoop (t0W r)).lb (remLoop (t0W r)).ub (remLoop (t0W r)).st h.mid.2.2.1 PUnit.unit
    rem (fun _ _ => iprop(sumsP d c t (rowUpd r.toNat xr (((t0W r).toNat + 1 + (midLoop (t0W r)).trips) * 128) g) ∗ stageP d c t R q f))
    (fun j _ => absurd (lt_of_lt_of_eq j.isLt hrt) (by omega))) $$ [H]
  · iexact H
  iintro %_ H
  rw [hmt]
  by_cases hl : (t0W r).toNat < 15
  · rw [dif_pos (hlast.mpr hl)]
    rw [show ((t0W r).toNat + 1 + (14 - (t0W r).toNat)) * 128 = 1920 by omega, wp_bind]
    iapply (wp_wand_r frame (wpE defs 𝒱 (V d c t) bd) E)
    isplitl [H]
    · iapply (wp_lstTile 𝒱 d c t bd E h hst g hl)
      iexact H
    iintro %_ H
    rw [wp_bind]
    iapply (wp_wand_r frame (wpE defs 𝒱 (V d c t) bd) E)
    isplitl [H]
    · iapply (wp_lstChunk 𝒱 d c t bd E h hst g hl P' dP' (hP' (hlast.mpr hl)) hPI')
      iexact H
    iintro %_ H
    iapply (le_wp_ret _ _ _ _ _)
    iexact H
  · rw [dif_neg (fun hh => hl (hlast.mp hh)), show ((t0W r).toNat + 1 + (14 - (t0W r).toNat)) * 128 = 2048 by omega]
    iapply (le_wp_ret _ _ _ _ _)
    iexact H

end Cert.KernelIdeal.Row
-- ==== Proof.Sc.Block.lean ====
module

public import proofs.«01_k».proof.Proof.Sc.RowWp

@[expose] public section

set_option maxRecDepth 16384

noncomputable section

/-! A tile's blocks: the sums it clears, the blocks of sixteen rows it is brought and adds, and their values. -/

namespace Cert.KernelIdeal.Row

open Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Values -/

/-- The place `(r, j)` of the argument, each number within its 2048. -/
def cell (r j : ℕ) : S2048x2048.Idx
  | ⟨0, _⟩ => ⟨r % 2048, Nat.mod_lt _ (by decide)⟩
  | ⟨1, _⟩ => ⟨j % 2048, Nat.mod_lt _ (by decide)⟩
  | ⟨_ + 2, h⟩ => absurd h (Nat.not_lt.2 (Nat.le_add_left _ _))

theorem cell_eq (b : S2048x2048.Idx) (r j : ℕ) (h0 : (b 0).val = r) (h1 : (b 1).val = j) : b = cell r j := by
  have l0 : (b 0).val < 2048 := (b 0).isLt
  have l1 : (b 1).val < 2048 := (b 1).isLt
  funext a
  match a with
  | ⟨0, _⟩ => exact Fin.ext (h0.trans (Nat.mod_eq_of_lt (by omega)).symm)
  | ⟨1, _⟩ => exact Fin.ext (h1.trans (Nat.mod_eq_of_lt (by omega)).symm)

/-- Row `r` of the argument. -/
def xRow (x : S2048x2048.Idx → F .f32) (r j : ℕ) : F .f32 := x (cell r j)

/-- The sums after the first `n` rows from row `base` on. -/
def blockUpd (x : S2048x2048.Idx → F .f32) (base : ℕ) : ℕ → Sums F → Sums F
  | 0, g => g
  | n + 1, g => rowUpd (base + n) (xRow x (base + n)) 2048 (blockUpd x base n g)

/-- The cleared sums. -/
def zeroSums : Sums F := fun _ => Scalar.ofBits .f32 0x00000000#32

/-- Tile `w`'s sums: its block from the front and its block from the back, onto cleared sums. -/
def tileSums (x : S2048x2048.Idx → F .f32) (w : ℕ) : Sums F :=
  blockUpd x ((127 - w) * 16) 16 (blockUpd x ((64 + w) * 16) 16 zeroSums)

local notation "bM" => (Memref.whole cc0_scratch0 : Memref sig Kind.scVector CoreSpace.vmem S32x2048 EltTy.f32)
local notation "aM" => (Memref.whole cc0_scratch1 : Memref sig Kind.scVector CoreSpace.vmem S4096 EltTy.f32)
/-- The argument, as a tile names it. -/
abbrev xM : Memref sig .scVector .hbm S2048x2048 .f32 := Memref.whole main_arg0_scv

/-- The place `(k, j)` of a block of sixteen rows. -/
def blockCell (k : Fin 16) (j : Fin 2048) : S16x2048.Idx
  | ⟨0, _⟩ => k
  | ⟨1, _⟩ => j
  | ⟨_ + 2, h⟩ => absurd h (Nat.not_lt.2 (Nat.le_add_left _ _))

/-- What a block's transfer leaves in the staging buffer. -/
theorem fetched_val (ob : Fin 2 → ℕ) (hb : ∀ a, ob a + S16x2048.size a ≤ S32x2048.size a) (oa : Fin 2 → ℕ)
    (ha : ∀ a, oa a + S16x2048.size a ≤ S2048x2048.size a) (hb1 : ob 1 = 0) (ha1 : oa 1 = 0)
    (f : S32x2048.Idx → F .f32) (x : S2048x2048.Idx → F .f32) (b : S32x2048.Idx) (k : ℕ) (hk : k < 16) (hbk : (b 0).val = ob 0 + k) :
    ((bM).slice (Rect.unit (s := S32x2048) ob S16x2048.size hb) (fun _ => rfl)).view.write (Elt F) f
        (((xM).slice (Rect.unit (s := S2048x2048) oa S16x2048.size ha) (fun _ => rfl)).view.read (Elt F) x) Finset.univ b
      = xRow x (oa 0 + k) (b 1).val := by
  have l1 : (b 1).val < 2048 := (b 1).isLt
  have he : ((bM).slice (Rect.unit (s := S32x2048) ob S16x2048.size hb) (fun _ => rfl)).view.emb (blockCell ⟨k, hk⟩ ⟨(b 1).val, l1⟩) = b := by
    funext a
    revert a
    refine Fin.forall_fin_two.mpr ⟨Fin.ext ?_, Fin.ext ?_⟩
    · show ob 0 + 1 * k = (b 0).val
      omega
    · show ob 1 + 1 * (b 1).val = (b 1).val
      omega
  refine Eq.trans (congrArg _ he.symm) ?_
  refine (View.write_emb _ _ _ _).trans ?_
  rw [if_pos (Finset.mem_univ _)]
  refine (cast_eq _ _).trans ?_
  · rw [View.read_apply]
    show x _ = x _
    congr 1
    refine cell_eq _ _ _ ?_ ?_
    · show oa 0 + 1 * k = oa 0 + k
      omega
    · show oa 1 + 1 * (b 1).val = (b 1).val
      omega

/-- One trip of the clearing: a chunk's places cleared, the others kept. -/
theorem clear_val (oa : Fin 1 → ℕ) (ha : ∀ x, oa x + S16.size x ≤ S4096.size x) (g : Sums F) (b : S4096.Idx) :
    ((aM).access (Rect.unit (s := S4096) oa S16.size ha)).write (Elt F) g (k0_pay137 (F := F)) Finset.univ b
      = if oa 0 ≤ (b 0).val ∧ (b 0).val < oa 0 + 16 then zeroSums b else g b := by
  by_cases h : oa 0 ≤ (b 0).val ∧ (b 0).val < oa 0 + 16
  · have hx := View.read_writes_cons_hit_of_coords (Val := Elt F) (aM).view g (Rect.unit (s := S4096) oa S16.size ha)
      (k0_pay137 (F := F)) [] (Shape.ofLane (d := ![16]) ⟨(b 0).val - oa 0, by show (b 0).val - oa 0 < 16; omega⟩) b (by
        intro a
        obtain rfl : a = (0 : Fin 1) := Subsingleton.elim (α := Fin 1) _ _
        show (b 0).val = oa 0 + 1 * ((b 0).val - oa 0)
        omega)
    rw [if_pos h]
    exact hx
  · have hx := View.read_writes_cons_miss_of_axis (Val := Elt F) (aM).view g
      ⟨Rect.unit (s := S4096) oa S16.size ha, (k0_pay137 (F := F))⟩ [] b 0 (oa 0) 16 rfl rfl rfl (by omega)
    rw [if_neg h]
    exact hx

/-! ## Programs -/

variable {Ix : Type} [DecidableEq Ix] {Name : Type} [DecidableEq Name] {U : Type} [URA U] {Lvl : Type} [Preorder Lvl]
variable {defs : Defs nD τ sig (Elt F) Λ₀} (𝒱 : Variants) (d : Dev nD) (i : grid0.Coords) (bd : Option 𝒱.V) (E : Set Name)

local notation "𝕄" => MT nD τ sig Ix (Elt F) Name U Lvl

/-- The SparseCore and the subcore of the task `i`. -/
abbrev cV (i : grid0.Coords) : Fin τ.nSC := (i 0).castLE hcore0
abbrev jV (i : grid0.Coords) : Fin τ.nSub := (i 1).castLE hsub0
/-- The number of the task `i`. -/
abbrev wid (i : grid0.Coords) : ℕ := 16 * (i 0).val + (i 1).val

section

variable (x2 : Memref sig .scVector .hbm S2048x2048 .f32) (h2 : x2.IsWhole) (x3 : Memref sig .scVector .hbm S32x4096 .f32) (h3 : x3.IsWhole)
variable (h4 : (bM).IsWhole) (h5 : (aM).IsWhole) (s6 s7 s8 : DmaSems sig S_)

/-- The clearing loop takes the sums, at anything, to the cleared sums. -/
theorem wp_clear (g : Sums F) :
    (sumsP d (cV i) (jV i) g : sProp 𝕄)
      ⊢ wp (M := 𝕄) frame (wpE defs 𝒱 (V d (cV i) (jV i)) bd) E
          (Scf.Loop.for k0_t1_loop k0_t1_ok ⟨⟩ (k0_t1_body (F := F) i x2 h2 x3 h3 bM h4 aM h5 s6 s7 s8))
          fun _ => sumsP d (cV i) (jV i) zeroSums := by
  have trips : k0_t1_loop.trips = 256 := by decide
  have hstep : ∀ (k : Fin k0_t1_loop.trips) (a : Unit),
      (iprop(∃ g : Sums F, ⌜∀ b : S4096.Idx, (b 0).val < 16 * k.val → g b = zeroSums b⌝ ∗ sumsP d (cV i) (jV i) g) : sProp 𝕄)
        ⊢ wp frame (wpE defs 𝒱 (V d (cV i) (jV i)) bd) E (k0_t1_body (F := F) i x2 h2 x3 h3 bM h4 aM h5 s6 s7 s8 k a)
          fun _ => iprop(∃ g : Sums F, ⌜∀ b : S4096.Idx, (b 0).val < 16 * (k.val + 1) → g b = zeroSums b⌝ ∗ sumsP d (cV i) (jV i) g) := by
    intro k a
    unfold k0_t1_body
    simp only [Prog.lift, Prog.bind_op, Prog.bind_ret, Prog.pure_eq_ret]
    iintro ⟨%g, %hg, Ha⟩
    iapply (wp_load (defs := defs) 𝒱 (V d (cV i) (jV i)) bd E (m := aM) (S := Finset.univ) (q := fullShare) (Finset.subset_univ _)) $$ Ha
    iintro Ha
    iapply (wp_store (defs := defs) 𝒱 (V d (cV i) (jV i)) bd E (m := aM) (r := Rect.unit (s := S4096) (k0_off1 k) S16.size (k0_off1_inb k)) (S := Finset.univ) (f := g) (Finset.subset_univ _)) $$ Ha
    iintro Ha
    iapply (le_wp_ret _ _ _ _ _)
    iexists _
    isplitr
    · ipureintro
      intro b hb
      refine (clear_val (k0_off1 k) (k0_off1_inb k) g b).trans ?_
      have ho : k0_off1 k 0 = 16 * k.val := congrFun (k0_off1_eq k) 0
      by_cases h : k0_off1 k 0 ≤ (b 0).val ∧ (b 0).val < k0_off1 k 0 + 16
      · exact if_pos h
      · exact (if_neg h).trans (hg b (by omega))
    · iexact Ha
  iintro Ha
  iapply (Scf.wp_for frame (wpE defs 𝒱 (V d (cV i) (jV i)) bd) E _ _ _ k0_t1_ok () (k0_t1_body (F := F) i x2 h2 x3 h3 bM h4 aM h5 s6 s7 s8)
    (fun k _ => iprop(∃ g : Sums F, ⌜∀ b : S4096.Idx, (b 0).val < 16 * k → g b = zeroSums b⌝ ∗ sumsP d (cV i) (jV i) g)) hstep)
  isplitl [Ha]
  · iexists g
    isplitr
    · ipureintro
      intro b hb
      exact absurd hb (by omega)
    · iexact Ha
  · iintro %_ ⟨%g', %hg', Ha⟩
    have : g' = zeroSums := by
      funext b
      have l : (b 0).val < 4096 := (b 0).isLt
      refine hg' b ?_
      show (b 0).val < 16 * k0_t1_loop.trips
      rw [trips]
      omega
    rw [this]
    iexact Ha

variable {R : Finset S32x2048.Idx} {q : PosShare TreeShare} {f : S32x2048.Idx → F .f32}

/-- The first block's loop takes the sums to the sums with the block's rows added. -/
theorem wp_blockA (x : S2048x2048.Idx → F .f32) (hst : ∀ k, k < 16 → Staged R f (k) (xRow x ((64 + wid i) * 16 + k))) (g : Sums F) :
    iprop(sumsP d (cV i) (jV i) g ∗ stageP d (cV i) (jV i) R q f)
      ⊢ wp (M := 𝕄) frame (wpE defs 𝒱 (V d (cV i) (jV i)) bd) E
          (Scf.Loop.for k0_t2_loop k0_t2_ok ⟨⟩ (k0_t2_body (F := F) i x2 h2 x3 h3 bM h4 aM h5 s6 s7 s8 lanes (baseA i) 0#32))
          fun _ => iprop(sumsP d (cV i) (jV i) (blockUpd x ((64 + wid i) * 16) 16 g) ∗ stageP d (cV i) (jV i) R q f) := by
  have hstep : ∀ (k : Fin k0_t2_loop.trips) (a : Unit),
      iprop(sumsP d (cV i) (jV i) (blockUpd x ((64 + wid i) * 16) k.val g) ∗ stageP d (cV i) (jV i) R q f)
        ⊢ wp (M := 𝕄) frame (wpE defs 𝒱 (V d (cV i) (jV i)) bd) E
          (k0_t2_body (F := F) i x2 h2 x3 h3 bM h4 aM h5 s6 s7 s8 lanes (baseA i) 0#32 k a)
          fun _ => iprop(sumsP d (cV i) (jV i) (blockUpd x ((64 + wid i) * 16) (k.val + 1) g) ∗ stageP d (cV i) (jV i) R q f) := by
    have hst' : ∀ k, k < 16 → ∀ s, s = k → Staged R f s (xRow x ((64 + wid i) * 16 + k)) := fun k hk s hs => hs ▸ hst k hk
    intro k a
    have hk : k.val < 16 := lt_of_lt_of_eq k.isLt trips_A
    obtain ⟨e1, e2, -, -⟩ := rows_closed i ⟨k.val, hk⟩
    dsimp only at e1 e2
    have e1' : (rowA i k.val).toNat = (64 + wid i) * 16 + k.val := by rw [e1]; show _ = (64 + (16 * (i 0).val + (i 1).val)) * 16 + k.val; omega
    rw [show a = () from rfl, k0_t2_body_eq]
    have h := wp_row (Ix := Ix) (Name := Name) (U := U) (Lvl := Lvl) (defs := defs) (q := q) (f := f) 𝒱 d (cV i) (jV i) bd E (rowA_ok i k)
      (R := R) (xr := xRow x ((64 + wid i) * 16 + k.val)) (hst' k.val hk _ e2) (blockUpd x ((64 + wid i) * 16) k.val g)
      (fun _ => k0_chk1) (fun _ => k0_chk1.dec) (fun _ _ h => h) (k0_chk9 i k) (k0_chk9.dec i k) (fun hl _ h => h hl)
      (remA (F := F) i x2 h2 x3 h3 bM h4 aM h5 s6 s7 s8 k) (fun _ _ h => h) (fun _ h _ => h)
    rw [e1'] at h
    exact h
  iintro ⟨Ha, Hb⟩
  iapply (Scf.wp_for frame (wpE defs 𝒱 (V d (cV i) (jV i)) bd) E _ _ _ k0_t2_ok () (k0_t2_body (F := F) i x2 h2 x3 h3 bM h4 aM h5 s6 s7 s8 lanes (baseA i) 0#32)
    (fun k _ => iprop(sumsP d (cV i) (jV i) (blockUpd x ((64 + wid i) * 16) k g) ∗ stageP d (cV i) (jV i) R q f)) hstep)
  isplitl [Ha Hb]
  · isplitl [Ha]
    · iexact Ha
    · iexact Hb
  · rw [show Scf.trips k0_t2_loop.lb k0_t2_loop.ub k0_t2_loop.st = 16 from trips_A]
    iintro %_ H
    iexact H

/-- The second block's loop takes the sums to the sums with the block's rows added. -/
theorem wp_blockB (x : S2048x2048.Idx → F .f32) (hst : ∀ k, k < 16 → Staged R f (16 + k) (xRow x ((127 - wid i) * 16 + k))) (g : Sums F) :
    iprop(sumsP d (cV i) (jV i) g ∗ stageP d (cV i) (jV i) R q f)
      ⊢ wp (M := 𝕄) frame (wpE defs 𝒱 (V d (cV i) (jV i)) bd) E
          (Scf.Loop.for k0_t5_loop k0_t5_ok ⟨⟩ (k0_t5_body (F := F) i x2 h2 x3 h3 bM h4 aM h5 s6 s7 s8 lanes (baseB i)))
          fun _ => iprop(sumsP d (cV i) (jV i) (blockUpd x ((127 - wid i) * 16) 16 g) ∗ stageP d (cV i) (jV i) R q f) := by
  have hstep : ∀ (k : Fin k0_t5_loop.trips) (a : Unit),
      iprop(sumsP d (cV i) (jV i) (blockUpd x ((127 - wid i) * 16) k.val g) ∗ stageP d (cV i) (jV i) R q f)
        ⊢ wp (M := 𝕄) frame (wpE defs 𝒱 (V d (cV i) (jV i)) bd) E
          (k0_t5_body (F := F) i x2 h2 x3 h3 bM h4 aM h5 s6 s7 s8 lanes (baseB i) k a)
          fun _ => iprop(sumsP d (cV i) (jV i) (blockUpd x ((127 - wid i) * 16) (k.val + 1) g) ∗ stageP d (cV i) (jV i) R q f) := by
    have hst' : ∀ k, k < 16 → ∀ s, s = 16 + k → Staged R f s (xRow x ((127 - wid i) * 16 + k)) := fun k hk s hs => hs ▸ hst k hk
    intro k a
    have hk : k.val < 16 := lt_of_lt_of_eq k.isLt trips_B
    obtain ⟨-, -, e1, e2⟩ := rows_closed i ⟨k.val, hk⟩
    dsimp only at e1 e2
    have e1' : (rowB i k.val).toNat = (127 - wid i) * 16 + k.val := by rw [e1]
    rw [show a = () from rfl, k0_t5_body_eq]
    have h := wp_row (Ix := Ix) (Name := Name) (U := U) (Lvl := Lvl) (defs := defs) (q := q) (f := f) 𝒱 d (cV i) (jV i) bd E (rowB_ok i k)
      (R := R) (xr := xRow x ((127 - wid i) * 16 + k.val)) (hst' k.val hk _ e2) (blockUpd x ((127 - wid i) * 16) k.val g)
      (fun _ => k0_chk10) (fun _ => k0_chk10.dec) (fun _ _ h => h) (k0_chk18 i k) (k0_chk18.dec i k) (fun hl _ h => h hl)
      (remB (F := F) i x2 h2 x3 h3 bM h4 aM h5 s6 s7 s8 k) (fun _ _ h => h) (fun _ h _ => h)
    rw [e1'] at h
    exact h
  iintro ⟨Ha, Hb⟩
  iapply (Scf.wp_for frame (wpE defs 𝒱 (V d (cV i) (jV i)) bd) E _ _ _ k0_t5_ok () (k0_t5_body (F := F) i x2 h2 x3 h3 bM h4 aM h5 s6 s7 s8 lanes (baseB i))
    (fun k _ => iprop(sumsP d (cV i) (jV i) (blockUpd x ((127 - wid i) * 16) k g) ∗ stageP d (cV i) (jV i) R q f)) hstep)
  isplitl [Ha Hb]
  · isplitl [Ha]
    · iexact Ha
    · iexact Hb
  · rw [show Scf.trips k0_t5_loop.lb k0_t5_loop.ub k0_t5_loop.st = 16 from trips_B]
    iintro %_ H
    iexact H

end

end Cert.KernelIdeal.Row
-- ==== Proof.Sc.Tile.lean ====
module

public import proofs.«01_k».proof.Proof.Sc.Base
public import proofs.«01_k».proof.Proof.Sc.Block

@[expose] public section

set_option maxRecDepth 16384

noncomputable section

/-! A tile's task: it takes its two blocks of rows and leaves its sums in its row of the tiles' sums. -/

namespace Cert.KernelIdeal.Run

open Cert.KernelIdeal.Gen Cert.KernelIdeal.Row
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "bM" => (Memref.whole cc0_scratch0 : Memref sig Kind.scVector CoreSpace.vmem S32x2048 EltTy.f32)
local notation "aM" => (Memref.whole cc0_scratch1 : Memref sig Kind.scVector CoreSpace.vmem S4096 EltTy.f32)

/-- The tiles' sums, as a tile names them. -/
abbrev oM : Memref sig .scVector .hbm S32x4096 .f32 := Memref.whole main_v0_scv

/-- Row `w` of the tiles' sums. -/
def rowSet (w : ℕ) : Finset S32x4096.Idx := Finset.univ.filter fun j => (j 0).val = w

/-- The tiles' sums: row `w` is tile `w`'s. -/
def scOut (x : S2048x2048.Idx → F .f32) : S32x4096.Idx → F .f32 := fun j => tileSums x (j 0).val (Shape.ofLane (d := ![4096]) (j 1))

variable (d : Dev nD) (i : grid0.Coords)

/-! ## The memrefs the task names -/

abbrev xA (i : grid0.Coords) : Memref sig .scVector .hbm S16x2048 .f32 :=
  (xM).slice (Rect.unit (s := S2048x2048) (k0_off2 i) S16x2048.size (k0_off2_inb i)) (fun _ => rfl)
abbrev xB (i : grid0.Coords) : Memref sig .scVector .hbm S16x2048 .f32 :=
  (xM).slice (Rect.unit (s := S2048x2048) (k0_off3 i) S16x2048.size (k0_off3_inb i)) (fun _ => rfl)
abbrev bA : Memref sig .scVector .vmem S16x2048 .f32 :=
  (bM).slice (Rect.unit (s := S32x2048) ![0, 0] S16x2048.size inb_S32x2048_S16x2048_0_0) (fun _ => rfl)
abbrev bB : Memref sig .scVector .vmem S16x2048 .f32 :=
  (bM).slice (Rect.unit (s := S32x2048) ![16, 0] S16x2048.size inb_S32x2048_S16x2048_16_0) (fun _ => rfl)
abbrev oRow (i : grid0.Coords) : Memref sig .scVector .hbm S4096 .f32 :=
  ((oM).slice (Rect.unit (s := S32x4096) (k0_off46 i) S1x4096.size (k0_off46_inb i)) (fun _ => rfl)).squeeze S4096 squeezes_S1x4096_S4096

/-- The lines of the first block. -/
def linesA : Finset S32x2048.Idx := Finset.univ.filter fun b => (b 0).val < 16

theorem bA_sub : bA.view.set ⊆ linesA := by
  intro b hb
  obtain ⟨y, -, rfl⟩ := Finset.mem_map.mp hb
  refine Finset.mem_filter.mpr ⟨Finset.mem_univ _, ?_⟩
  have : (y 0).val < 16 := (y 0).isLt
  show 0 + 1 * (y 0).val < 16
  omega

theorem bB_sub : bB.view.set ⊆ Finset.univ \ linesA := by
  intro b hb
  obtain ⟨y, -, rfl⟩ := Finset.mem_map.mp hb
  refine Finset.mem_sdiff.mpr ⟨Finset.mem_univ _, fun h => ?_⟩
  have h' : 16 + 1 * (y 0).val < 16 := (Finset.mem_filter.mp h).2
  omega

/-- Where the task's row memref puts place `y`. -/
theorem oRow_emb (y : S4096.Idx) (j : S32x4096.Idx) (h0 : (j 0).val = wid i) (h1 : (j 1).val = (y 0).val) : (oRow i).view.emb y = j := by
  have hr : Shape.reshapeEquiv squeezes_S1x4096_S4096.numel_eq y = (Fin.cons ⟨0, Nat.one_pos⟩ y : S1x4096.Idx) :=
    shapeCast_dropUnit_apply ![4096] (fun z : S1x4096.Idx => z) squeezes_S1x4096_S4096.numel_eq y
  have hv : (oRow i).view.emb y = ((oM).slice (Rect.unit (s := S32x4096) (k0_off46 i) S1x4096.size (k0_off46_inb i)) (fun _ => rfl)).view.emb
      (Shape.reshapeEquiv squeezes_S1x4096_S4096.numel_eq y) := rfl
  rw [hv, hr]
  have e0 : k0_off46 i 0 = wid i := congrFun (k0_off46_eq i) 0
  have e1 : k0_off46 i 1 = 0 := congrFun (k0_off46_eq i) 1
  funext a
  revert a
  refine Fin.forall_fin_two.mpr ⟨Fin.ext ?_, Fin.ext ?_⟩
  · show k0_off46 i 0 + 1 * 0 = (j 0).val
    omega
  · show k0_off46 i 1 + 1 * (y 0).val = (j 1).val
    omega

theorem oRow_sub : (oRow i).view.set ⊆ rowSet (wid i) := by
  intro b hb
  obtain ⟨y, -, rfl⟩ := Finset.mem_map.mp hb
  have lw : wid i < 32 := wid_lt i
  rw [oRow_emb i y (fun | ⟨0, _⟩ => ⟨wid i, lw⟩ | ⟨1, _⟩ => y 0 | ⟨_ + 2, h⟩ => absurd h (Nat.not_lt.2 (Nat.le_add_left _ _))) rfl rfl]
  exact Finset.mem_filter.mpr ⟨Finset.mem_univ _, rfl⟩

theorem oRow_val (f : S32x4096.Idx → F .f32) (g : Sums F) (j : S32x4096.Idx) (hj : j ∈ rowSet (wid i)) :
    (oRow i).view.write (Elt F) f ((aM).view.read (Elt F) g) Finset.univ j = g (Shape.ofLane (d := ![4096]) (j 1)) := by
  have hj0 : (j 0).val = wid i := (Finset.mem_filter.mp hj).2
  refine Eq.trans (congrArg _ (oRow_emb i (Shape.ofLane (d := ![4096]) (j 1)) j hj0 rfl).symm) ?_
  refine (View.write_emb _ _ _ _).trans ?_
  rw [if_pos (Finset.mem_univ _)]
  exact cast_eq _ _

/-! ## The task's own buffers and semaphores -/

abbrev c6 : GSem nD τ sig := (V d (cV i) (jV i), .dma cc0_scratch2.sem)
abbrev c7 : GSem nD τ sig := (V d (cV i) (jV i), .dma cc0_scratch3.sem)
abbrev c8 : GSem nD τ sig := (V d (cV i) (jV i), .dma cc0_scoped0.sem)

theorem ownSems0_V :
    (ownSems0 (V d (cV i) (jV i)) : sProp 𝕄)
      = iprop(semVal (c6 d i) 0 ∗ semVal (c7 d i) 0 ∗ semVal (c8 d i) 0
          ∗ bigSep ((((ownCells (V d (cV i) (jV i))).erase (c6 d i)).erase (c7 d i)).erase (c8 d i)) fun g => semVal g 0) := by
  unfold SparseCore.Cfg.ownSems0
  rw [SparseCore.bigSep_erase' ((mem_ownCells (g := c6 d i)).mpr ⟨rfl, by
      show (SemLoc.dma cc0_scratch2.sem : SemLoc sig).isScoped .scVector = true; decide⟩),
    SparseCore.bigSep_erase' (Finset.mem_erase.mpr ⟨by simp [c6, c7]; decide, (mem_ownCells (g := c7 d i)).mpr ⟨rfl, by
      show (SemLoc.dma cc0_scratch3.sem : SemLoc sig).isScoped .scVector = true; decide⟩⟩),
    SparseCore.bigSep_erase' (Finset.mem_erase.mpr ⟨by simp [c7, c8]; decide, Finset.mem_erase.mpr ⟨by simp [c6, c8]; decide,
      (mem_ownCells (g := c8 d i)).mpr ⟨rfl, by show (SemLoc.dma cc0_scoped0.sem : SemLoc sig).isScoped .scVector = true; decide⟩⟩⟩)]

/-- The staging buffer and the sums are among the subcore's own buffers: they are them, at some contents, and the rest. -/
theorem ownBufs_V :
    (ownBufs (V d (cV i) (jV i)) : sProp 𝕄)
      = iprop((∃ f, (V d (cV i) (jV i)).loc cc0_scratch0 ↦{fullShare} f) ∗ (∃ f, (V d (cV i) (jV i)).loc cc0_scratch1 ↦{fullShare} f)
          ∗ bigSep (((ownRefs (τ := τ) (.scVector (cV i) (jV i))).erase ((Proc.scVector (cV i) (jV i)).devRef cc0_scratch0)).erase
              ((Proc.scVector (cV i) (jV i)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩)]

/-! ## What the transfers bring -/

theorem staged_A (f : S32x2048.Idx → F .f32) (x : S2048x2048.Idx → F .f32) (k : ℕ) (hk : k < 16) :
    Staged linesA (bA.view.write (Elt F) f ((xA i).view.read (Elt F) x) Finset.univ) k (xRow x ((64 + wid i) * 16 + k)) where
  sub b hb := Finset.mem_filter.mpr ⟨Finset.mem_univ _, by omega⟩
  val b hb := by
    have e0 : k0_off2 i 0 = (64 + wid i) * 16 := (congrFun (k0_off2_eq i) 0).trans (by
      show 256 * (i 0).val + 16 * (i 1).val + 1024 = (64 + (16 * (i 0).val + (i 1).val)) * 16
      omega)
    rw [← e0]
    exact fetched_val ![0, 0] _ (k0_off2 i) (k0_off2_inb i) rfl (congrFun (k0_off2_eq i) 1) f x b k hk (by
      show (b 0).val = 0 + k
      omega)

theorem staged_B (f : S32x2048.Idx → F .f32) (x : S2048x2048.Idx → F .f32) (k : ℕ) (hk : k < 16) :
    Staged (Finset.univ \ linesA) (bB.view.write (Elt F) f ((xB i).view.read (Elt F) x) Finset.univ) (16 + k) (xRow x ((127 - wid i) * 16 + k)) where
  sub b hb := Finset.mem_sdiff.mpr ⟨Finset.mem_univ _, fun h => by
    have : (b 0).val < 16 := (Finset.mem_filter.mp h).2
    omega⟩
  val b hb := by
    have e0 : k0_off3 i 0 = (127 - wid i) * 16 := (congrFun (k0_off3_eq i) 0).trans (by
      show 2032 - (256 * (i 0).val + 16 * (i 1).val) = (127 - (16 * (i 0).val + (i 1).val)) * 16
      omega)
    rw [← e0]
    exact fetched_val ![16, 0] _ (k0_off3 i) (k0_off3_inb i) rfl (congrFun (k0_off3_eq i) 1) f x b k hk hb

/-! ## The task -/

/-- The task of tile `wid i`: from any share of the argument and the tile's row of the tiles' sums, it leaves there the
    tile's sums. -/
theorem tile_body (q : PosShare TreeShare) (x : S2048x2048.Idx → F .f32) (f₀ : S32x4096.Idx → F .f32)
    (O : CellTallies nD τ sig (HIx 1)) (W : Waits sig (HIx 1)) (hO : ∀ g, O g none = 0) :
    iprop(levAts (K (F := F)).L (K (F := F)).lev
        ∗ ((xLoc d ↦{q} (x : Buf (Elt F) (xLoc d))) ∗ (sLoc d ↦[(rowSet (wid i) : Finset (Idx (sLoc d)))]{fullShare} (f₀ : Buf (Elt F) (sLoc d))))
        ∗ scopedBufs (V d (cV i) (jV i)) ∗ scopedSems0 (V d (cV i) (jV i)) ∗ owes (V d (cV i) (jV i)) O W)
      ⊢ wp (M := 𝕄) frame (wpE (defs₀ (F := F)) 𝒱₀ (V d (cV i) (jV i)) none) Set.univ
          (cc0_sc_bottom i xM (Memref.isWhole_whole _) oM (Memref.isWhole_whole _) bM (Memref.isWhole_whole _) aM (Memref.isWhole_whole _)
            cc0_scratch2 cc0_scratch3 cc0_scoped0)
          fun _ => iprop(((xLoc d ↦{q} (x : Buf (Elt F) (xLoc d))) ∗ (sLoc d ↦[(rowSet (wid i) : Finset (Idx (sLoc d)))]{fullShare} (scOut x : Buf (Elt F) (sLoc d))))
            ∗ scopedBufs (V d (cV i) (jV i)) ∗ scopedSems0 (V d (cV i) (jV i))
            ∗ ∃ W', ⌜∀ p ∈ W', p ∈ W ∨ p.2 = none⌝ ∗ owes (V d (cV i) (jV i)) O W') := by
  simp only [cc0_sc_bottom_eq_skeleton]
  unfold cc0_sc_bottom_skel
  simp only [k0_part17_eq_skeleton]
  unfold k0_part17_skel
  simp only [Prog.lift, Prog.bind_assoc, Prog.bind_op, Prog.bind_ret, Prog.pure_eq_ret]
  rw [(K (F := F)).scopedBufs_V facts d (cV i) (jV i), SparseCore.Cfg.scopedSems0_V (Val := Elt F) d (cV i) (jV i), ownSems0_V, ownBufs_V]
  iintro ⟨#Hlv, ⟨Hx, Ho⟩, ⟨⟨%fb, Hb⟩, ⟨%fa, Ha⟩, Hbufs⟩, ⟨H6, H7, H8, Hsems⟩, HO⟩
  -- the sums cleared
  rw [wp_bind]
  iapply (wp_wand_r frame (wpE (defs₀ (F := F)) 𝒱₀ (V d (cV i) (jV i)) none) Set.univ)
  isplitl [Ha]
  · iapply (wp_clear 𝒱₀ d i none Set.univ xM (Memref.isWhole_whole _) oM (Memref.isWhole_whole _) (Memref.isWhole_whole _) (Memref.isWhole_whole _)
      cc0_scratch2 cc0_scratch3 cc0_scoped0 fa)
    iexact Ha
  iintro %_ Ha
  -- the argument's share in two, and of each the block's elements; the staging buffer in two
  ihave Hx2 := (pointsTo_share (PosShare.mem_left_op_right q)).1 $$ Hx
  icases Hx2 with ⟨Hxl, Hxr⟩
  ihave Hxl2 := (pointsTo_split_subset (Finset.subset_univ (xA i).view.set)).1 $$ Hxl
  icases Hxl2 with ⟨HxA, HxA'⟩
  ihave Hxr2 := (pointsTo_split_subset (Finset.subset_univ (xB i).view.set)).1 $$ Hxr
  icases Hxr2 with ⟨HxB, HxB'⟩
  ihave Hb2 := (pointsTo_split_subset (Finset.subset_univ linesA)).1 $$ Hb
  icases Hb2 with ⟨HbA, HbB⟩
  -- the two transfers started
  iapply (Transfers.wp_dmaLocal countersEmb 𝒱₀ (V d (cV i) (jV i)) none (none : HIx 1) _ rfl (View.amount_pos _ _ (show 0 < S16x2048.numel by decide)) bA_sub) $$ [HxA HbA H6]
  · isplitl [HxA]; · iexact HxA
    isplitl [HbA]; · iexact HbA
    iexact H6
  iintro HfA
  iapply (Transfers.wp_dmaLocal countersEmb 𝒱₀ (V d (cV i) (jV i)) none (none : HIx 1) _ rfl (View.amount_pos _ _ (show 0 < S16x2048.numel by decide)) bB_sub) $$ [HxB HbB H7]
  · isplitl [HxB]; · iexact HxB
    isplitl [HbB]; · iexact HbB
    iexact H7
  iintro HfB
  -- the first block in, and added
  iapply (Transfers.wp_waitLocalO countersEmb 𝒱₀ (V d (cV i) (jV i)) none (none : HIx 1) rfl) $$ [HfA HO]
  · isplitl [HfA]; · iexact HfA
    isplitl [HO]; · iexact HO
    iapply ((K (F := F)).mayWait_none (SemLoc.dma cc0_scratch2.sem) hO); iexact Hlv
  iintro ⟨⟨HbA, HxA⟩, H6, HO⟩
  rw [wp_bind]
  iapply (wp_wand_r frame (wpE (defs₀ (F := F)) 𝒱₀ (V d (cV i) (jV i)) none) Set.univ)
  isplitl [Ha HbA]
  · iapply (wp_blockA 𝒱₀ d i none Set.univ xM (Memref.isWhole_whole _) oM (Memref.isWhole_whole _) (Memref.isWhole_whole _) (Memref.isWhole_whole _)
      cc0_scratch2 cc0_scratch3 cc0_scoped0 x (staged_A i fb x) zeroSums)
    isplitl [Ha]; · iexact Ha
    iexact HbA
  iintro %_ ⟨Ha, HbA⟩
  -- the second block in, and added
  iapply (Transfers.wp_waitLocalO countersEmb 𝒱₀ (V d (cV i) (jV i)) none (none : HIx 1) rfl) $$ [HfB HO]
  · isplitl [HfB]; · iexact HfB
    isplitl [HO]; · iexact HO
    iapply ((K (F := F)).mayWait_none (SemLoc.dma cc0_scratch3.sem) hO); iexact Hlv
  iintro ⟨⟨HbB, HxB⟩, H7, HO⟩
  rw [wp_bind]
  iapply (wp_wand_r frame (wpE (defs₀ (F := F)) 𝒱₀ (V d (cV i) (jV i)) none) Set.univ)
  isplitl [Ha HbB]
  · iapply (wp_blockB 𝒱₀ d i none Set.univ xM (Memref.isWhole_whole _) oM (Memref.isWhole_whole _) (Memref.isWhole_whole _) (Memref.isWhole_whole _)
      cc0_scratch2 cc0_scratch3 cc0_scoped0 x (staged_B i fb x) (blockUpd x ((64 + wid i) * 16) 16 zeroSums))
    isplitl [Ha]; · iexact Ha
    iexact HbB
  iintro %_ ⟨Ha, HbB⟩
  -- the sums out to the tile's row
  have has : (aM).view.set = Finset.univ := View.set_whole _
  ihave Ha' := (Entails.of_eq (show (sumsP d (cV i) (jV i) (blockUpd x ((127 - wid i) * 16) 16 (blockUpd x ((64 + wid i) * 16) 16 zeroSums)) : sProp 𝕄)
      = (aM).view.loc (V d (cV i) (jV i)) ↦[(aM).view.set]{fullShare} (tileSums x (wid i) : Buf (Elt F) ((aM).view.loc (V d (cV i) (jV i)))) by rw [has]; rfl)) $$ Ha
  iapply (Transfers.wp_dmaLocal countersEmb 𝒱₀ (V d (cV i) (jV i)) none (none : HIx 1) _ rfl (View.amount_pos _ _ (show 0 < S4096.numel by decide)) (oRow_sub i)) $$ [Ha' Ho H8]
  · isplitl [Ha']; · iexact Ha'
    isplitl [Ho]; · iexact Ho
    iexact H8
  iintro HfC
  iapply (Transfers.wp_waitLocalO countersEmb 𝒱₀ (V d (cV i) (jV i)) none (none : HIx 1) rfl) $$ [HfC HO]
  · isplitl [HfC]; · iexact HfC
    isplitl [HO]; · iexact HO
    iapply ((K (F := F)).mayWait_none (SemLoc.dma cc0_scoped0.sem) hO); iexact Hlv
  iintro ⟨⟨Ho, Ha⟩, H8, HO⟩
  iapply (le_wp_ret _ _ _ _ _)
  isplitl [HxA HxA' HxB HxB' Ho]
  · isplitr [Ho]
    · iapply (pointsTo_share (PosShare.mem_left_op_right q)).2
      isplitl [HxA HxA']
      · iapply (pointsTo_split_subset (Finset.subset_univ (xA i).view.set)).2
        isplitl [HxA]; · iexact HxA
        iexact HxA'
      · iapply (pointsTo_split_subset (Finset.subset_univ (xB i).view.set)).2
        isplitl [HxB]; · iexact HxB
        iexact HxB'
    · iapply (Entails.of_eq (pointsTo_congr (fun j hj => (oRow_val i f₀ (tileSums x (wid i)) j hj).trans
        (show tileSums x (wid i) _ = tileSums x (j 0).val _ by rw [show (j 0).val = wid i from (Finset.mem_filter.mp hj).2]))))
      iexact Ho
  isplitl [HbA HbB Ha Hbufs]
  · isplitl [HbA HbB]
    · iexists _
      iapply (pointsTo_join_subset (Finset.subset_univ linesA))
      isplitl [HbA]; · iexact HbA
      iexact HbB
    isplitl [Ha]
    · iexists _
      iapply (Entails.of_eq (show ((aM).view.loc (V d (cV i) (jV i)) ↦[(aM).view.set]{fullShare} (tileSums x (wid i) : Buf (Elt F) ((aM).view.loc (V d (cV i) (jV i)))) : sProp 𝕄)
        = sumsP d (cV i) (jV i) (tileSums x (wid i)) by rw [has]))
      iexact Ha
    iexact Hbufs
  isplitl [H6 H7 H8 Hsems]
  · isplitl [H6]; · iexact H6
    isplitl [H7]; · iexact H7
    isplitl [H8]; · iexact H8
    iexact Hsems
  iexists _
  isplitr
  swap
  · iexact HO
  ipureintro
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Run
-- ==== Proof.Sc.Launch.lean ====
module

public import proofs.«01_k».proof.Proof.Sc.Tile

@[expose] public section

set_option maxRecDepth 16384

noncomputable section

/-! The SparseCore call: what its handshakes carry, its tiles' obligation, and how the arrays are dealt to the tiles. -/

namespace Cert.KernelIdeal.Run

open Cert.KernelIdeal.Gen Cert.KernelIdeal.Row
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig (HIx 1) (Elt F) ℕ UU ℕ

variable (m : (ℓ : Loc nD τ sig) → Buf (Elt F) ℓ)

/-- The argument as device `d` is launched with it. -/
def xIn (d : Dev nD) : S2048x2048.Idx → F .f32 := m (xLoc d)

/-- What tile `w` is handed: a read share of the argument and its row of the tiles' sums, at `f`. -/
abbrev share (d : Dev nD) (f : S32x4096.Idx → F .f32) (w : ℕ) : sProp 𝕄 :=
  iprop((xLoc d ↦{shareTokN fullShare w} (xIn m d : Buf (Elt F) (xLoc d)))
    ∗ (sLoc d ↦[(rowSet w : Finset (Idx (sLoc d)))]{fullShare} (f : Buf (Elt F) (sLoc d))))

/-- The number of tile `i` of SparseCore `c`. -/
abbrev num {a b : ℕ} (c : Fin a) (i : Fin b) : ℕ := 16 * c.val + i.val

/-- The call carries the tiles' shares out, with the rows at what the launch left there, and back, with the rows at
    the tiles' sums. -/
def P : (K (F := F)).Pay (nD := nD) (Val := Elt F) (Name := ℕ) (U := UU) where
  st := fun q d c => match q with | 0 => bigSep Finset.univ fun i : Fin 16 => share m d (m (sLoc d)) (num c i)
  dn := fun q d c => match q with | 0 => bigSep Finset.univ fun i : Fin 16 => share m d (scOut (xIn m d)) (num c i)
  go := fun q d c i => match q with | 0 => share m d (m (sLoc d)) (num c i)
  td := fun q d c i => match q with | 0 => share m d (scOut (xIn m d)) (num c i)
  x := fun _ _ => iprop(emp)

instance P_storable : (P (F := F) m).IsStorable where
  st q d c := match q with
    | 0 => (inferInstance : BI.Storable (upEmb : UEmb _ 𝕄) (bigSep Finset.univ fun i : Fin 16 => share m d (m (sLoc d)) (num c i)))
  dn q d c := match q with
    | 0 => (inferInstance : BI.Storable (upEmb : UEmb _ 𝕄) (bigSep Finset.univ fun i : Fin 16 => share m d (scOut (xIn m d)) (num c i)))
  go q d c i := match q with
    | 0 => (inferInstance : BI.Storable (upEmb : UEmb _ 𝕄) (share m d (m (sLoc d)) (num c i)))
  td q d c i := match q with
    | 0 => (inferInstance : BI.Storable (upEmb : UEmb _ 𝕄) (share m d (scOut (xIn m d)) (num c i)))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_bottom (coordsV c s)
          xM (Memref.isWhole_whole _) oM (Memref.isWhole_whole _) (Memref.whole cc0_scratch0) (Memref.isWhole_whole _)
          (Memref.whole cc0_scratch1) (Memref.isWhole_whole _) cc0_scratch2 cc0_scratch3 cc0_scoped0) ⟨⟩ c s := rfl

/-- The waits a tile records are at the tile's own index. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (sep_mono_right sep_elim_right).trans ((tile_body d (coordsV ⟨_, hc.1⟩ ⟨_, hc.2⟩) (shareTokN fullShare (num c i)) (xIn m d) (m (sLoc d)) O W hO).trans
    (wp_mono frame _ _ fun _ => obl_post))

theorem vecSplit : (K (F := F)).VecSplit' (P m) 0 := by
  intro d c
  show (bigSep Finset.univ fun i : Fin 16 => share m d (m (sLoc d)) (num c i)) ⊢ |={Set.univ}=> iprop(
      (bigSep Finset.univ fun i : Fin 16 => share m d (m (sLoc d)) (num c i))
      ∗ ((bigSep Finset.univ fun i : Fin 16 => share m d (scOut (xIn m d)) (num c i))
        -∗ (bigSep Finset.univ fun i : Fin 16 => share m d (scOut (xIn m d)) (num c i))))
  iintro H
  imodintro
  isplitl [H]; · iexact H
  iintro H
  iexact H

/-! ## The launch's ghost state -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What device `d`'s TensorCore is dealt for its two pipelines. -/
abbrev G (d : Dev nD) : sProp 𝕄 :=
  iprop((bigSep Finset.univ fun p : Fin 2 => Pipeline.cellsGhost cfgs EP p d) ∗ bigSep Finset.univ fun p : Fin 2 => Pipeline.toksInit cfgs EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own ((EH : Emb UH 𝕄) (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost cfgs EP cellOf_inj) $$ HP with ⟨Hg, Ht⟩
  imodintro
  isplitl [HH]; · iexact HH
  isplitl [Hg Ht]
  · rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays dealt to the tiles -/

/-- The tiles of both SparseCores are the numbers below 32. -/
theorem deal (Φ : ℕ → sProp 𝕄) :
    (bigSep Finset.univ fun c : Fin 2 => bigSep Finset.univ fun i : Fin 16 => Φ (num c i)) = bigSep Finset.univ fun w : Fin 32 => Φ w.val := by
  rw [← BI.bigSep_univ_prod fun p : Fin 2 × Fin 16 => Φ (num p.1 p.2)]
  have h := BI.bigSep_map (finProdFinEquiv (m := 2) (n := 16)).toEmbedding (s := Finset.univ) (Φ := fun w : Fin 32 => Φ w.val)
  rw [Finset.map_univ_equiv] at h
  refine Eq.trans (bigSep_congr fun p _ => congrArg Φ ?_) h.symm
  show 16 * p.1.val + p.2.val = p.2.val + 16 * p.1.val
  omega

theorem rows_disjoint : ∀ i ∈ (Finset.univ : Finset (Fin 32)), ∀ j ∈ (Finset.univ : Finset (Fin 32)), i ≠ j → Disjoint (rowSet i.val) (rowSet j.val) := by
  intro i _ j _ h
  refine Finset.disjoint_left.mpr fun b hi hj => h (Fin.ext ?_)
  exact ((Finset.mem_filter.mp hi).2.symm.trans (Finset.mem_filter.mp hj).2)

theorem rows_cover : (Finset.univ : Finset (Fin 32)).biUnion (fun i => rowSet i.val) = Finset.univ := by
  ext b
  simp only [Finset.mem_biUnion, Finset.mem_univ, true_and, iff_true]
  exact ⟨⟨(b 0).val, (b 0).isLt⟩, Finset.mem_filter.mpr ⟨Finset.mem_univ _, rfl⟩⟩

/-- The tiles' sums whole are their rows. -/
theorem rows_eq (d : Dev nD) (f : S32x4096.Idx → F .f32) :
    (sLoc d ↦{fullShare} (f : Buf (Elt F) (sLoc d)) : sProp 𝕄)
      = bigSep Finset.univ fun w : Fin 32 => sLoc d ↦[(rowSet w.val : Finset (Idx (sLoc d)))]{fullShare} (f : Buf (Elt F) (sLoc d)) := by
  rw [← pointsTo_biUnion Finset.univ (ℓ := sLoc d) (fun w : Fin 32 => (rowSet w.val : Finset (Idx (sLoc d)))) rows_disjoint]
  exact congrArg (fun I : Finset S32x4096.Idx => (sLoc d ↦[(I : Finset (Idx (sLoc d)))]{fullShare} (f : Buf (Elt F) (sLoc d)) : sProp 𝕄)) rows_cover.symm

/-- The tiles' shares, dealt from the argument, of which a share is kept, and the tiles' sums. -/
theorem shares_eq (d : Dev nD) (f : S32x4096.Idx → F .f32) :
    iprop((xLoc d ↦{fullShare} (xIn m d : Buf (Elt F) (xLoc d))) ∗ (sLoc d ↦{fullShare} (f : Buf (Elt F) (sLoc d))) : sProp 𝕄)
      ⊣⊢ iprop((xLoc d ↦{shareDrop fullShare 32} (xIn m d : Buf (Elt F) (xLoc d)))
          ∗ bigSep Finset.univ fun c : Fin 2 => bigSep Finset.univ fun i : Fin 16 => share m d f (num c i)) := by
  rw [deal (share m d f), bigSep_sep', rows_eq]
  constructor
  · iintro ⟨Hx, Hs⟩
    ihave H := (Transfers.pointsTo_toks_split fullShare 32) $$ Hx
    icases H with ⟨Hd, Ht⟩
    isplitl [Hd]; · iexact Hd
    isplitl [Ht]; · iexact Ht
    iexact Hs
  · iintro ⟨Hd, Ht, Hs⟩
    isplitl [Hd Ht]
    · iapply (Transfers.pointsTo_toks_join fullShare 32)
      isplitl [Hd]; · iexact Hd
      iexact Ht
    iexact Hs

end Cert.KernelIdeal.Run
-- ==== Proof.Tc.Owns.lean ====
module

public import proofs.«01_k».proof.Proof.Sc.Base
public import Idealize.ShloMosaic.Lib.Writes
public import Idealize.ShloMosaic.Lib.Pipeline.Value

@[expose] public section

set_option maxRecDepth 16384

noncomputable section

/-! Loads from and stores to a rectangle of a buffer known by what is read through it. -/

namespace Cert.KernelIdeal.Tc

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}
variable {cs : CoreSpace} {m : Memref sig c.2.kind cs s e}

theorem read_store (r : Rect s) (w : r.shape.Idx → Val e) (f : m.view.ty.Contents Val) :
    m.view.read Val (m.view.writes Val f [⟨r, w⟩]) = r.overlay (m.view.read Val f) w := by
  funext y
  by_cases hy : y ∈ r.set
  · obtain ⟨x, rfl⟩ := r.exists_idx_of_mem hy
    refine (View.read_writes_cons_emb _ _ r w [] x).trans (r.overlay_emb _ _ x).symm
  · rw [r.overlay_of_not_mem _ _ hy]
    exact View.read_writes_apply_of_forall_not_mem _ _ _ _ (by simpa using hy)

/-- A load of the rectangle `r` of a buffer reading `X` yields `X` there. -/
theorem owns_load {r : Rect s} {q : PosShare TreeShare} {X : s.Idx → Val e} {hl : m.view.LoadsAt r.toLoadRect}
    {k : (r.toLoadRect.shape.Idx → Val e) → Prog (TpuEff nD τ sig Val Λ c.2) α} :
    (owns c m q X : sProp (MT nD τ sig Ix Val Name U Lvl))
      ⊢ iprop((owns c m q X -∗ wp frame (wpE defs 𝒱 c bd) E (k fun x => X (r.emb x)) Q)
        -∗ wp frame (wpE defs 𝒱 c bd) E (.op (.load m r.toLoadRect hl) k) Q) := by
  unfold owns
  iintro ⟨%f, %hf, H⟩ Hk
  subst hf
  iapply (wp_load (defs := defs) 𝒱 c bd E (m := m) (S := m.view.set) (q := q) (f := f) (m.view.setOn_subset_set _)) $$ H
  iintro H
  iapply Hk
  iexists f
  isplitr; · ipureintro; rfl
  iexact H

/-- A store to the rectangle `r` of a buffer reading `X` leaves it reading `X` with the stored there. -/
theorem owns_store {r : Rect s} {w : r.shape.Idx → Val e} {X : s.Idx → Val e}
    {hx : (m.access r).Stores Finset.univ} {hm : Finset.univ = Finset.univ ∨ ∀ a, r.stride a = 1}
    {k : PUnit → Prog (TpuEff nD τ sig Val Λ c.2) α} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store_writes₀ (defs := defs) 𝒱 c bd E (Q := Q) (m := m) (r := r) (w := w) (hx := hx) (hm := hm) (k := k) (S := m.view.set) (f := f)
    (m.view.set_slice_subset r)) $$ H
  iintro H
  iapply Hk
  iexists (m.view.writes Val f [⟨r, w⟩])
  isplitr; · ipureintro; exact read_store c r w f
  iexact H

end Cert.KernelIdeal.Tc
-- ==== Proof.Tc.Top.lean ====
module

public import proofs.«01_k».proof.Proof.Gen.KernelIdeal.Skeleton
public import proofs.«01_k».proof.Proof.Tc.Owns

@[expose] public section

set_option maxRecDepth 16384

noncomputable section

/-! The upper half's body at a grid point: the staged rows' aligned sums are added to the running sums at the point's
    place, the running sums being zeroed first at the first point. -/

namespace Cert.KernelIdeal.Tc

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)

local notation "𝕄" => MT nD τ sig Ix (Elt F) Name U Lvl

/-- The upper half's running sums. -/
abbrev Upper (F : FTy → Type) : Type := S1x4224.Idx → F .f32

/-- A rectangle of 2176 of the running sums starts here. -/
abbrev Fits (o : ℕ) : Prop := ∀ a, (![0, o] : Fin 2 → ℕ) a + S1x2176.size a ≤ S1x4224.size a

/-- The rectangle of the running sums starting at `o`. -/
abbrev band (o : ℕ) (hb : Fits o) : Rect S1x4224 := Rect.unit (s := S1x4224) ![0, o] S1x2176.size hb

/-- The running sums with `cs` added from `o` on. -/
def addBand (o : ℕ) (hb : Fits o) (cs : FVec F S1x2176 .f32) (h : Upper F) : Upper F :=
  (band o hb).overlay h (k1_pay1 cs fun x => h ((band o hb).emb x))

/-- `f` applied when the flag is set. -/
def applyIf {α : Type} (b : BitVec 1) (f : α → α) (h : α) : α := if b = 1#1 then f h else h

/-- The staged rows' sums, each row moved to its place. -/
def colSums (x : S128x2048.Idx → F .f32) : FVec F S1x2176 .f32 := k1_pay6 (k1_pay4 x) (k1_pay5 x)

/-- The running sums zeroed at the first point. -/
def topInit (i : grid1.Coords) (h : Upper F) : Upper F := applyIf (k1_cond1 i) (fun _ => k1_pay3 (F := F)) h

/-- The additions of the first six points, each made at its own point. -/
def topLow (i : grid1.Coords) (cs : FVec F S1x2176 .f32) (h : Upper F) : Upper F :=
  applyIf (k1_cond7 i) (addBand 1281 inb_S1x4224_S1x2176_0_1281 cs) <|
  applyIf (k1_cond6 i) (addBand 1409 inb_S1x4224_S1x2176_0_1409 cs) <|
  applyIf (k1_cond5 i) (addBand 1537 inb_S1x4224_S1x2176_0_1537 cs) <|
  applyIf (k1_cond4 i) (addBand 1665 inb_S1x4224_S1x2176_0_1665 cs) <|
  applyIf (k1_cond3 i) (addBand 1793 inb_S1x4224_S1x2176_0_1793 cs) <|
  applyIf (k1_cond2 i) (addBand 1921 inb_S1x4224_S1x2176_0_1921 cs) h

/-- What a point leaves in the running sums. -/
def topStep (i : grid1.Coords) (x : S128x2048.Idx → F .f32) (h : Upper F) : Upper F :=
  applyIf (k1_cond9 i) (addBand 1025 inb_S1x4224_S1x2176_0_1025 (colSums x)) <|
  applyIf (k1_cond8 i) (addBand 1153 inb_S1x4224_S1x2176_0_1153 (colSums x)) <|
  topLow i (colSums x) (topInit i h)

/-! ## The body -/

variable (M : Memref sig .tc .vmem S1x4224 .f32)

/-- One of the body's guarded additions, and what follows it. -/
def condAdd {α : Type} (b : BitVec 1) (o : ℕ) (hb : Fits o) (pay : Vec F S1x2176 .f32 → FVec F S1x2176 .f32)
    (k : Prog (TpuEff nD τ sig (Elt F) Λ₀ .tc) α) : Prog (TpuEff nD τ sig (Elt F) Λ₀ .tc) α :=
  if _ : b = 1#1 then do
    let v91 : Vec F S1x2176 .f32 ← Prog.lift (.load M (band o hb).toLoadRect (View.loadsAt_vmem h_S1x2176))
    let v95 : Vec F S1x2176 .f32 ← Prog.lift (.load M (band o hb).toLoadRect (View.loadsAt_vmem h_S1x2176))
    Prog.lift (.store M (band o hb) (pay v91) Finset.univ (View.stores_vmem_bits_univ h_S1x2176 rfl) (.inl rfl))
    k
  else k

theorem wp_condAdd {α : Type} {Q : α → sProp 𝕄} {k : Prog (TpuEff nD τ sig (Elt F) Λ₀ .tc) α} (b : BitVec 1) (o : ℕ) (hb : Fits o)
    (cs : FVec F S1x2176 .f32) (h : Upper F) :
    (owns c M fullShare h : sProp 𝕄)
      ⊢ iprop((owns c M fullShare (applyIf b (addBand o hb cs) h) -∗ wp (M := 𝕄) frame (wpE defs 𝒱 (c : Thread nD τ) bd) E k Q)
        -∗ wp (M := 𝕄) frame (wpE defs 𝒱 (c : Thread nD τ) bd) E (condAdd M b o hb (k1_pay1 cs) k) Q) := by
  unfold condAdd applyIf
  by_cases hc : b = 1#1
  · rw [dif_pos hc, if_pos hc]
    simp only [Prog.lift, Prog.bind_op, Prog.bind_ret, Prog.pure_eq_ret]
    iintro H Hk
    iapply (owns_load (defs := defs) 𝒱 (c : Thread nD τ) bd E (m := M) (r := band o hb)) $$ H
    iintro H
    iapply (owns_load (defs := defs) 𝒱 (c : Thread nD τ) bd E (m := M) (r := band o hb)) $$ H
    iintro H
    iapply (owns_store (defs := defs) 𝒱 (c : Thread nD τ) bd E (m := M) (r := band o hb)) $$ H
    iintro H
    iapply Hk
    iexact H
  · rw [dif_neg hc, if_neg hc]
    iintro H Hk
    iapply Hk
    iexact H

theorem whole_emb {s : Shape} (off : Fin s.rank → ℕ) (h0 : ∀ a, off a = 0) (hb : ∀ a, off a + s.size a ≤ s.size a) (x : s.Idx) :
    (Rect.unit (s := s) off s.size hb).emb x = x := by
  funext a
  refine Fin.ext ?_
  show off a + 1 * (x a).val = (x a).val
  rw [h0, Nat.zero_add, Nat.one_mul]

theorem two_zero : ∀ a : Fin 2, (![0, 0] : Fin 2 → ℕ) a = 0 := by decide

theorem overlay_whole {s : Shape} {α : Type} (off : Fin s.rank → ℕ) (h0 : ∀ a, off a = 0) (hb : ∀ a, off a + s.size a ≤ s.size a) (X w : s.Idx → α) :
    (Rect.unit (s := s) off s.size hb).overlay X w = w := by
  funext x
  have h := (Rect.unit (s := s) off s.size hb).overlay_emb X w x
  rwa [whole_emb off h0 hb x] at h

theorem wp_part1 (i : grid1.Coords) (M1 : Memref sig .tc .vmem S128x2048 .f32) (h1 : M1.IsWhole) (h2 : M.IsWhole)
    (x : S128x2048.Idx → F .f32) (h : Upper F) :
    (iprop(owns c M1 fullShare x ∗ owns c M fullShare h) : sProp 𝕄)
      ⊢ wp (M := 𝕄) frame (wpE defs 𝒱 (c : Thread nD τ) bd) E (k1_part1 i M1 h1 M h2)
          fun r => iprop(⌜r = ⟨BitVec.ofNat 32 (i 0).val, k1_pay4 x, k1_pay5 x⟩⌝ ∗ owns c M1 fullShare x ∗ owns c M fullShare (topInit i h)) := by
  rw [k1_part1_eq_skeleton]
  unfold k1_part1_skel topInit applyIf
  have hx : (fun y => x ((Rect.unit (s := S128x2048) ![0, 0] S128x2048.size inb_S128x2048_S128x2048_0_0).emb y)) = x :=
    funext fun y => congrArg x (whole_emb _ two_zero _ y)
  by_cases hc : k1_cond1 i = 1#1
  · rw [dif_pos hc, if_pos hc]
    simp only [Prog.lift, Prog.bind_op, Prog.bind_ret, Prog.pure_eq_ret]
    iintro ⟨H1, H⟩
    iapply (owns_load (defs := defs) 𝒱 (c : Thread nD τ) bd E (m := M)) $$ H
    iintro H
    iapply (owns_store (defs := defs) 𝒱 (c : Thread nD τ) bd E (m := M)) $$ H
    iintro H
    iapply (owns_load (defs := defs) 𝒱 (c : Thread nD τ) bd E (m := M1) (r := Rect.unit (s := S128x2048) ![0, 0] S128x2048.size inb_S128x2048_S128x2048_0_0)) $$ H1
    iintro H1
    rw [overlay_whole _ two_zero]
    simp only [hx]
    iapply (le_wp_ret _ _ _ _ _)
    isplitr; · ipureintro; rfl
    isplitl [H1] <;> iassumption
  · rw [dif_neg hc, if_neg hc]
    simp only [Prog.lift, Prog.bind_op, Prog.bind_ret, Prog.pure_eq_ret]
    iintro ⟨H1, H⟩
    iapply (owns_load (defs := defs) 𝒱 (c : Thread nD τ) bd E (m := M1) (r := Rect.unit (s := S128x2048) ![0, 0] S128x2048.size inb_S128x2048_S128x2048_0_0)) $$ H1
    iintro H1
    simp only [hx]
    iapply (le_wp_ret _ _ _ _ _)
    isplitr; · ipureintro; rfl
    isplitl [H1] <;> iassumption

theorem part2_eq (i : grid1.Coords) (M1 : Memref sig .tc .vmem S128x2048 .f32) (h1 : M1.IsWhole) (h2 : M.IsWhole) (a0 : BitVec 32)
    (v42 : FVec F S8x2176 .f32) (v45 : FVec F S4x1x2176 .f32) :
    k1_part2 (F := F) i M1 h1 M h2 a0 v42 v45
      = condAdd M (k1_cond2 i) 1921 inb_S1x4224_S1x2176_0_1921 (k1_pay1 (k1_pay6 v42 v45)) (
        condAdd M (k1_cond3 i) 1793 inb_S1x4224_S1x2176_0_1793 (k1_pay1 (k1_pay6 v42 v45)) (
        condAdd M (k1_cond4 i) 1665 inb_S1x4224_S1x2176_0_1665 (k1_pay1 (k1_pay6 v42 v45)) (
        condAdd M (k1_cond5 i) 1537 inb_S1x4224_S1x2176_0_1537 (k1_pay1 (k1_pay6 v42 v45)) (
        condAdd M (k1_cond6 i) 1409 inb_S1x4224_S1x2176_0_1409 (k1_pay1 (k1_pay6 v42 v45)) (
        condAdd M (k1_cond7 i) 1281 inb_S1x4224_S1x2176_0_1281 (k1_pay1 (k1_pay6 v42 v45)) (
        pure ⟨k1_pay6 v42 v45, 6#32⟩)))))) := rfl

theorem top_eq (i : grid1.Coords) (M1 : Memref sig .tc .vmem S128x2048 .f32) (h1 : M1.IsWhole) (h2 : M.IsWhole) :
    cc1__tc_top_body (F := F) i M1 h1 M h2
      = (do
        let r ← k1_part1 i M1 h1 M h2
        let s ← k1_part2 i M1 h1 M h2 r.1 r.2.1 r.2.2
        condAdd M (k1_cond8 i) 1153 inb_S1x4224_S1x2176_0_1153 (k1_pay1 s.1) (
        condAdd M (k1_cond9 i) 1025 inb_S1x4224_S1x2176_0_1025 (k1_pay1 s.1) (
        pure ⟨⟩))) := rfl

theorem wp_part2 (i : grid1.Coords) (M1 : Memref sig .tc .vmem S128x2048 .f32) (h1 : M1.IsWhole) (h2 : M.IsWhole) (a0 : BitVec 32)
    (v42 : FVec F S8x2176 .f32) (v45 : FVec F S4x1x2176 .f32) (h : Upper F) :
    (owns c M fullShare h : sProp 𝕄)
      ⊢ wp (M := 𝕄) frame (wpE defs 𝒱 (c : Thread nD τ) bd) E (k1_part2 i M1 h1 M h2 a0 v42 v45)
          fun r => iprop(⌜r.1 = k1_pay6 v42 v45⌝ ∗ owns c M fullShare (topLow i (k1_pay6 v42 v45) h)) := by
  rw [part2_eq]
  unfold topLow
  iintro H
  iapply (wp_condAdd 𝒱 c bd E M) $$ H
  iintro H
  iapply (wp_condAdd 𝒱 c bd E M) $$ H
  iintro H
  iapply (wp_condAdd 𝒱 c bd E M) $$ H
  iintro H
  iapply (wp_condAdd 𝒱 c bd E M) $$ H
  iintro H
  iapply (wp_condAdd 𝒱 c bd E M) $$ H
  iintro H
  iapply (wp_condAdd 𝒱 c bd E M) $$ H
  iintro H
  iapply (le_wp_ret _ _ _ _ _)
  isplitr; · ipureintro; rfl
  iexact H

/-- A point's body adds the staged rows' sums to the running sums, `topStep`, and keeps the staged rows. -/
theorem wp_top (i : grid1.Coords) (M1 : Memref sig .tc .vmem S128x2048 .f32) (h1 : M1.IsWhole) (h2 : M.IsWhole)
    (x : S128x2048.Idx → F .f32) (h : Upper F) :
    (iprop(owns c M1 fullShare x ∗ owns c M fullShare h) : sProp 𝕄)
      ⊢ wp (M := 𝕄) frame (wpE defs 𝒱 (c : Thread nD τ) bd) E (cc1__tc_top_body i M1 h1 M h2)
          fun _ => iprop(owns c M1 fullShare x ∗ owns c M fullShare (topStep i x h)) := by
  rw [top_eq]
  unfold topStep colSums
  iintro H
  rw [wp_bind]
  iapply (wp_wand_r frame (wpE defs 𝒱 (c : Thread nD τ) bd) E)
  isplitl [H]
  · iapply (wp_part1 𝒱 c bd E M i M1 h1 h2 x h); iexact H
  iintro %r ⟨%hr, H1, H⟩
  subst hr
  rw [wp_bind]
  iapply (wp_wand_r frame (wpE defs 𝒱 (c : Thread nD τ) bd) E)
  isplitl [H]
  · iapply (wp_part2 𝒱 c bd E M i M1 h1 h2 _ _ _ _); iexact H
  iintro %r ⟨%hr, H⟩
  rw [hr]
  iapply (wp_condAdd 𝒱 c bd E M) $$ H
  iintro H
  iapply (wp_condAdd 𝒱 c bd E M) $$ H
  iintro H
  iapply (le_wp_ret _ _ _ _ _)
  isplitl [H1] <;> iassumption

end Cert.KernelIdeal.Tc
-- ==== Proof.Tc.Combine.lean ====
module

public import proofs.«01_k».proof.Proof.Tc.Top

@[expose] public section

set_option maxRecDepth 16384

noncomputable section

/-! The last body: the partial sums of the lower half and the sums of the upper half become the averages. -/

namespace Cert.KernelIdeal.Tc

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)

local notation "𝕄" => MT nD τ sig Ix (Elt F) Name U Lvl

/-- The first 4096 of the upper half's sums. -/
abbrev head : Rect S1x4224 := Rect.unit (s := S1x4224) ![0, 0] S1x4096.size inb_S1x4224_S1x4096_0_0

/-- The averages, from the tiles' partial sums and the upper half's sums. -/
def averages (p : S32x4096.Idx → F .f32) (u : Upper F) : S1x4096.Idx → F .f32 := k2_pay1 p fun x => u (head.emb x)

/-- The last body leaves the averages in its third buffer and keeps the other two. -/
theorem wp_combine (M0 : Memref sig .tc .vmem S32x4096 .f32) (h0 : M0.IsWhole) (M1 : Memref sig .tc .vmem S1x4224 .f32) (h1 : M1.IsWhole)
    (M2 : Memref sig .tc .vmem S1x4096 .f32) (h2 : M2.IsWhole) (p : S32x4096.Idx → F .f32) (u : Upper F) (z : S1x4096.Idx → F .f32) :
    (iprop(owns c M0 fullShare p ∗ owns c M1 fullShare u ∗ owns c M2 fullShare z) : sProp 𝕄)
      ⊢ wp (M := 𝕄) frame (wpE defs 𝒱 (c : Thread nD τ) bd) E (cc2__combine_body M0 h0 M1 h1 M2 h2)
          fun _ => iprop(owns c M0 fullShare p ∗ owns c M1 fullShare u ∗ owns c M2 fullShare (averages p u)) := by
  rw [cc2__combine_body_eq_skeleton]
  unfold cc2__combine_body_skel averages
  have hp : (fun y => p ((Rect.unit (s := S32x4096) ![0, 0] S32x4096.size inb_S32x4096_S32x4096_0_0).emb y)) = p :=
    funext fun y => congrArg p (whole_emb _ two_zero _ y)
  simp only [Prog.lift, Prog.bind_op, Prog.bind_ret, Prog.pure_eq_ret]
  iintro ⟨H0, H1, H2⟩
  iapply (owns_load (defs := defs) 𝒱 (c : Thread nD τ) bd E (m := M0)) $$ H0
  iintro H0
  iapply (owns_load (defs := defs) 𝒱 (c : Thread nD τ) bd E (m := M1) (r := head)) $$ H1
  iintro H1
  iapply (owns_load (defs := defs) 𝒱 (c : Thread nD τ) bd E (m := M2)) $$ H2
  iintro H2
  iapply (owns_store (defs := defs) 𝒱 (c : Thread nD τ) bd E (m := M2)) $$ H2
  iintro H2
  rw [overlay_whole _ two_zero]
  simp only [hp]
  iapply (le_wp_ret _ _ _ _ _)
  isplitl [H0]; · iexact H0
  isplitl [H1]; · iexact H1
  iexact H2

end Cert.KernelIdeal.Tc
-- ==== Proof.Tc.Data.lean ====
module

public import proofs.«01_k».proof.Proof.Gen.KernelIdeal.Launch
public import proofs.«01_k».proof.Proof.Gen.KernelIdeal.Points
public import proofs.«01_k».proof.Proof.Tc.Combine

@[expose] public section

set_option maxRecDepth 16384

noncomputable section

/-! What the TensorCore's two pipelines find and leave in their buffers at every point, entered from the buffers'
    contents `V`. -/

namespace Cert.KernelIdeal.Run

open Cert.KernelIdeal.Gen Cert.KernelIdeal.Tc
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-- Contents of the TensorCore's buffers. -/
abbrev Bufs (F : FTy → Type) : Type := (c : Dev nD) → (b : Ref sig .tc) → Buf (Elt F) ((c : Thread nD τ).loc b)

variable (V : Bufs F) (c : Dev nD)

/-- The waits the core may have recorded: none above the SparseCore call. -/
def quiet : Set (SemLoc sig × HIx 1) := {p | (K (F := F)).lev ((c : Thread nD τ), p.1) p.2 ≤ 8 * (inferInstance : SparseCore.Cfg.Blocks 1 1).fst 1}

/-- The 128 rows of the argument staged at point `t`. -/
def rowsAt (t : Fin cfg1.N) : S128x2048.Idx → F .f32 := ((cfg1.win 0).blk t).view.read (Elt F) (V c main_arg0)

/-- The running sums after `n` points. -/
def upperAt : ℕ → Upper F
  | 0 => k1_pay3
  | n + 1 => if h : n < cfg1.N then topStep (grid1.coords ⟨n, h⟩) (rowsAt V c ⟨n, h⟩) (upperAt n) else upperAt n

/-- The upper half's pipeline: the staged rows stay, the running sums grow by a point. -/
def topDat : Dat τ (Elt F) (HIx 1) ℕ UU ℕ cfg1 c where
  A w := V c (Pipeline.arrRef spec1 w)
  after w t := match w with
    | ⟨0, _⟩ => rowsAt V c t
    | ⟨1, _⟩ => upperAt V c (t.val + 1)
  Φ _ := Pipeline.scopedRest (Ix := HIx 1) (Name := ℕ) (U := UU) (Lvl := ℕ) (Val := Elt F) spec1 c
  q _ := fullShare
  owed _ := 0
  recorded _ := quiet (F := F) c

/-- The partial sums as the last call stages them. -/
def partsIn : S32x4096.Idx → F .f32 := ((cfg2.win 0).blk t2_0).view.read (Elt F) (V c main_v0)

/-- The upper half's sums as the last call stages them. -/
def upperIn : Upper F := ((cfg2.win 1).blk t2_0).view.read (Elt F) (V c main_v1)

/-- The last call: its two operands stay, the third buffer holds the averages. -/
def combDat : Dat τ (Elt F) (HIx 1) ℕ UU ℕ cfg2 c where
  A w := V c (Pipeline.arrRef spec2 w)
  after w _ := match w with
    | ⟨0, _⟩ => partsIn V c
    | ⟨1, _⟩ => upperIn V c
    | ⟨2, _⟩ => averages (partsIn V c) (upperIn V c)
  Φ _ := Pipeline.scopedRest (Ix := HIx 1) (Name := ℕ) (U := UU) (Lvl := ℕ) (Val := Elt F) spec2 c
  q _ := fullShare
  owed _ := 0
  recorded _ := quiet (F := F) c

/-! ## The upper half's points -/

/-- Point `n` of the upper half's grid. -/
def pointOf (n : Fin 8) : grid1.Coords := fun a => match a with | ⟨0, _⟩ => n

theorem eq_pointOf (i : grid1.Coords) : i = pointOf (i 0) := by
  funext a
  obtain rfl : a = (0 : Fin 1) := Subsingleton.elim (α := Fin 1) _ _
  rfl

/-- The running sums are stored to at every point. -/
theorem live (i : grid1.Coords) : cfg1.idle 1 i = false := by
  have key : ∀ n : Fin 8, idle1 1 (pointOf n) = false := by decide
  exact (congrArg (cfg1.idle 1) (eq_pointOf i)).trans (key (i 0))

/-- At the first point the running sums start from zero, whatever was there. -/
theorem topStep_first (t : Fin cfg1.N) (ht : t.val = 0) (x : S128x2048.Idx → F .f32) (h h' : Upper F) :
    topStep (grid1.coords t) x h = topStep (grid1.coords t) x h' := by
  obtain rfl : t = t1_0 := Fin.ext ht
  have hc : k1_cond1 (grid1.coords t1_0) = 1#1 := by decide
  unfold topStep topInit applyIf
  rw [if_pos hc, if_pos hc]

theorem upperAt_succ (t : Fin cfg1.N) : upperAt V c (t.val + 1) = topStep (grid1.coords t) (rowsAt V c t) (upperAt V c t.val) := by
  rw [upperAt, dif_pos t.isLt]

theorem before_rows (t : Fin cfg1.N) (d) : (topDat V c).before 0 t d = rowsAt V c t := by
  rw [Dat.before_fetched _ 0 t (fetch1_0 t)]; rfl

theorem step_before (t : Fin cfg1.N) (d) :
    topStep (grid1.coords t) (rowsAt V c t) ((topDat V c).before 1 t d) = upperAt V c (t.val + 1) := by
  rw [upperAt_succ]
  by_cases ht : t.val = 0
  · exact topStep_first t ht _ _ _
  · have hf : (cfg1.win 1).flush ⟨t.val - 1, Nat.lt_of_le_of_lt (Nat.sub_le _ _) t.isLt⟩ = false := by
      have ht8 : t.val < 8 := lt_of_lt_of_eq t.isLt N_1
      refine Bool.eq_false_iff.mpr fun h => ?_
      have := (flush1_1 _).mp h
      dsimp only at this
      omega
    have h := Dat.before_out_kept (topDat V c) 1 rfl t ht hf live (fun _ _ => rfl) d
    have e : (topDat V c).after 1 ⟨t.val - 1, Nat.lt_of_le_of_lt (Nat.sub_le _ _) t.isLt⟩ = upperAt V c t.val :=
      congrArg (upperAt V c) (show t.val - 1 + 1 = t.val by omega)
    exact congrArg (topStep (grid1.coords t) (rowsAt V c t)) (h.trans e)

/-- Every point of the upper half's pipeline runs from what it finds to what it leaves. -/
theorem top_obligation : BodyObligation (topDat V c) (defs₀ (F := F)) 𝒱₀ none Set.univ := fun t => by
  have hl : idle1 1 (grid1.coords t) = false := live _
  rw [bigSep_W1, bigSep_W1]
  rw [show (topDat V c).Φ t.succ = (topDat V c).Φ t.castSucc from rfl, show (topDat V c).owesAt none t.succ = (topDat V c).owesAt none t.castSucc from rfl]
  simp only [hl]
  iintro ⟨HΦ, Ho, ⟨%d0, H0⟩, ⟨%d1, H1⟩⟩
  rw [before_rows]
  iapply (wp_wand_r frame (wpE (defs₀ (F := F)) 𝒱₀ (c : Thread nD τ) none) Set.univ)
  isplitl [H0 H1]
  · iapply (wp_top (defs := defs₀ (F := F)) 𝒱₀ c none Set.univ _ (grid1.coords t) _ (hstage1_0 ((cfg1.slots t 0).cast nbuf1_0)) (hstage1_1 ((cfg1.slots t 1).cast nbuf1_1)) (rowsAt V c t) ((topDat V c).before 1 t d1))
    isplitl [H0]; · iexact H0
    iexact H1
  iintro %_ ⟨H0, H1⟩
  rw [step_before]
  isplitl [HΦ]; · iexact HΦ
  isplitl [Ho]; · iexact Ho
  isplitl [H0]; · iexact H0
  iexact H1

/-- The last call runs from what it finds to what it leaves. -/
theorem comb_obligation : BodyObligation (combDat V c) (defs₀ (F := F)) 𝒱₀ none Set.univ := fun t => by
  obtain rfl := fin_N2 t
  rw [bigSep_W2, bigSep_W2]
  rw [show (combDat V c).Φ t2_0.succ = (combDat V c).Φ t2_0.castSucc from rfl, show (combDat V c).owesAt none t2_0.succ = (combDat V c).owesAt none t2_0.castSucc from rfl]
  iintro ⟨HΦ, Ho, ⟨%d0, H0⟩, ⟨%d1, H1⟩, ⟨%d2, H2⟩⟩
  rw [show (combDat V c).before 0 t2_0 d0 = partsIn V c by rw [Dat.before_fetched _ 0 t2_0 (fetch2_0 _)]; rfl,
    show (combDat V c).before 1 t2_0 d1 = upperIn V c by rw [Dat.before_fetched _ 1 t2_0 (fetch2_1 _)]; rfl]
  iapply (wp_wand_r frame (wpE (defs₀ (F := F)) 𝒱₀ (c : Thread nD τ) none) Set.univ)
  isplitl [H0 H1 H2]
  · iapply (wp_combine (defs := defs₀ (F := F)) 𝒱₀ c none Set.univ _ (hstage2_0 0) _ (hstage2_1 0) _ (hstage2_2 0) (partsIn V c) (upperIn V c) ((combDat V c).before 2 t2_0 d2))
    isplitl [H0]; · iexact H0
    isplitl [H1] <;> iassumption
  iintro %_ ⟨H0, H1, H2⟩
  isplitl [HΦ]; · iexact HΦ
  isplitl [Ho]; · iexact Ho
  isplitl [H0]; · iexact H0
  isplitl [H1]; · iexact H1
  iexact H2

end Cert.KernelIdeal.Run
-- ==== Proof.Tc.Regions.lean ====
module

public import proofs.«01_k».proof.Proof.Tc.Data
public import Idealize.ShloMosaic.Lib.Pipeline.RegionsLoop

@[expose] public section

set_option maxRecDepth 16384

noncomputable section

/-! The TensorCore's two calls as steps of the program: each takes every array at the contents `V`, and leaves them at
    `V` but for its result. -/

namespace Cert.KernelIdeal.Run

open Cert.KernelIdeal.Gen Cert.KernelIdeal.Tc
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-- The core owes nothing, and has recorded no wait above the SparseCore call. -/
abbrev idleOwes (c : Dev nD) : sProp 𝕄 := Pipeline.owesWithin c (0 : CellTallies nD τ sig (HIx 1)) (quiet (F := F) c)

/-- Every array at `V`, and nothing owed. -/
abbrev state (V : Bufs F) (c : Dev nD) : sProp 𝕄 := iprop(unscopedBufs c (V c) ∗ idleOwes c)

variable (V : Bufs F)

/-- The two pipelines' data, both entered from `V`. -/
def pdats : (p : Fin 2) → (c : Dev nD) → Dat τ (Elt F) (HIx 1) ℕ UU ℕ (Pipeline.pin (pcfgs (F := F)) adm p) c
  | ⟨0, _⟩ => fun c => topDat V c
  | ⟨1, _⟩ => fun c => combDat V c

/-- The contents after the upper half's call: its sums in place. -/
def afterTop : Bufs F := fun c => Function.update (V c) main_v1 ((topDat V c).arrAt 1 cfg1.N)

/-- The contents after the last call: the averages in place. -/
def afterComb : Bufs F := fun c => Function.update (V c) main_v2 ((combDat V c).arrAt 2 cfg2.N)

theorem afterTop_self (c : Dev nD) : afterTop V c main_v1 = (topDat V c).arrAt 1 cfg1.N := Function.update_self _ _ _
theorem afterTop_ne (c : Dev nD) (b : Ref sig .tc) (h : b ≠ main_v1) : afterTop V c b = V c b := Function.update_of_ne h _ _
theorem afterComb_self (c : Dev nD) : afterComb V c main_v2 = (combDat V c).arrAt 2 cfg2.N := Function.update_self _ _ _
theorem afterComb_ne (c : Dev nD) (b : Ref sig .tc) (h : b ≠ main_v2) : afterComb V c b = V c b := Function.update_of_ne h _ _

theorem quiet_bound {cfg : Cfg sig Λ₀} {c : Dev nD} : quiet (F := F) c ∪ cfg.waitPairs (none : HIx 1) ⊆ quiet (F := F) c := by
  rintro ⟨s, ix⟩ (h | ⟨w, s, h⟩)
  · exact h
  · obtain ⟨rfl, rfl⟩ := Prod.mk.inj h
    exact Nat.zero_le _

set_option backward.isDefEq.respectTransparency.types false in
/-- The upper half's call as a step. -/
def topSeg : Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (top_obligation V c).loose
  hwaits := Pipeline.hwaits_of_owed_zero _ _ _ _ (K (F := F)).L (K (F := F)).lev 0 fun _ _ => rfl
  pre c := state V c
  post c := state (afterTop V) c
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (Pipeline.owesWithin_mono c _ Set.subset_union_left); iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (afterTop V c) ((pdats V 0 c).arrAt · cfg1.N)
      (fun w => by
        fin_cases w
        · exact ((pdats V 0 c).arrAt_in 0 rfl _).trans (afterTop_ne V c main_arg0 (by decide)).symm
        · exact (afterTop_self V c).symm)
      (fun b hb => afterTop_ne V c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    iapply (Pipeline.owesWithin_mono c _ quiet_bound); iexact HO

set_option backward.isDefEq.respectTransparency.types false in
/-- The last call as a step. -/
def combSeg : Pipeline.RegionSeg (pcfgs (F := F)) adm (pdats V) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (comb_obligation V c).loose
  hwaits := Pipeline.hwaits_of_owed_zero _ _ _ _ (K (F := F)).L (K (F := F)).lev 1 fun _ _ => rfl
  pre c := state V c
  post c := state (afterComb V) c
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) launch2.win launch2.arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (Pipeline.owesWithin_mono c _ Set.subset_union_left); iexact HO
    isplitr; · iempintro
    iexact Hrest
  hin c := by
    rw [show (pdats V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V) ((pdats V 1 c).share_full fun _ => rfl) (V c) (afterComb V c) ((pdats V 1 c).arrAt · cfg2.N)
      (fun w => by
        fin_cases w
        · exact ((pdats V 1 c).arrAt_in 0 rfl _).trans (afterComb_ne V c main_v0 (by decide)).symm
        · exact ((pdats V 1 c).arrAt_in 1 rfl _).trans (afterComb_ne V c main_v1 (by decide)).symm
        · exact (afterComb_self V c).symm)
      (fun b hb => afterComb_ne V c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    iapply (Pipeline.owesWithin_mono c _ quiet_bound); iexact HO

end Cert.KernelIdeal.Run
-- ==== Proof.Tc.Calls.lean ====
module

public import proofs.«01_k».proof.Proof.Sc.Launch
public import proofs.«01_k».proof.Proof.Tc.Regions

@[expose] public section

set_option maxRecDepth 16384

noncomputable section

/-! The TensorCore's two calls in the whole program, as rules over the program's state. -/

namespace Cert.KernelIdeal.Run

open Cert.KernelIdeal.Gen Cert.KernelIdeal.Tc
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A call that runs alone runs in the whole program. -/
theorem wp_lifted (d : Dev nD) (p : Fin 2) (Q : PUnit → sProp 𝕄) :
    wp frame (wpE (D (F := F)) 𝒱 (SparseCore.T d) none) Set.univ (.op (.customCall (Pipeline.entry p) ()) .ret) Q
      ⊢ wp frame (wpE ((K (F := F)).defs (D (F := F))) 𝒱 (SparseCore.T d) none) Set.univ
          (Prog.lift (.customCall (SparseCore.inner (Pipeline.entry p)) ())) Q :=
  (K (F := F)).wp_liftProg (D (F := F)) 𝒱 (SparseCore.T d) Set.univ none (Prog.lift (.customCall (Pipeline.entry p) ())) Q

variable (V : Bufs F) (d : Dev nD)

/-- What a call of pipeline `p` uses up. -/
abbrev ticket (p : Fin 2) : sProp 𝕄 := iprop(Pipeline.cellsGhost cfgs EP p d ∗ Pipeline.toksInit cfgs EP p d)

/-- The upper half's call takes the arrays from `V` to `afterTop V`. -/
theorem wp_topCall [∀ e, Nonempty (Elt F e)] (Q : PUnit → sProp 𝕄) :
    iprop((iprop(boundary (SparseCore.T d) ∗ state (afterTop V) d) -∗ Q ⟨⟩)
        ∗ boundary (SparseCore.T d) ∗ state V d ∗ levAts (K (F := F)).L (K (F := F)).lev ∗ ticket d 0)
      ⊢ wp frame (wpE ((K (F := F)).defs (D (F := F))) 𝒱 (SparseCore.T d) none) Set.univ
          (Prog.lift (.customCall (SparseCore.inner (Pipeline.entry 0)) ())) Q := by
  have h := Pipeline.RegionSeg.wp (pcfgs (F := F)) adm (pdats V) (none : HIx 1) cellOf_inj EP defs₀ 𝒱₀
    (K (F := F)).L (K (F := F)).lev (topSeg V) d none (fun _ h => nomatch h) .ret Q
  rw [show (topSeg V).pre d = state V d from rfl, show (topSeg V).post d = state (afterTop V) d from rfl] at h
  iintro ⟨Hk, Hb, Hs, Hl, Hc, Ht⟩
  iapply (wp_lifted d 0 Q)
  iapply h
  isplitl [Hk]
  · iintro H
    rw [wp_ret]
    imodintro
    iapply Hk
    iexact H
  isplitl [Hb]; · iexact Hb
  isplitl [Hs]; · iexact Hs
  isplitl [Hl]; · iexact Hl
  isplitl [Hc]; · iexact Hc
  iexact Ht

/-- The last call takes the arrays from `V` to `afterComb V`. -/
theorem wp_combCall [∀ e, Nonempty (Elt F e)] (Q : PUnit → sProp 𝕄) :
    iprop((iprop(boundary (SparseCore.T d) ∗ state (afterComb V) d) -∗ Q ⟨⟩)
        ∗ boundary (SparseCore.T d) ∗ state V d ∗ levAts (K (F := F)).L (K (F := F)).lev ∗ ticket d 1)
      ⊢ wp frame (wpE ((K (F := F)).defs (D (F := F))) 𝒱 (SparseCore.T d) none) Set.univ
          (Prog.lift (.customCall (SparseCore.inner (Pipeline.entry 1)) ())) Q := by
  have h := Pipeline.RegionSeg.wp (pcfgs (F := F)) adm (pdats V) (none : HIx 1) cellOf_inj EP defs₀ 𝒱₀
    (K (F := F)).L (K (F := F)).lev (combSeg V) d none (fun _ h => nomatch h) .ret Q
  rw [show (combSeg V).pre d = state V d from rfl, show (combSeg V).post d = state (afterComb V) d from rfl] at h
  iintro ⟨Hk, Hb, Hs, Hl, Hc, Ht⟩
  iapply (wp_lifted d 1 Q)
  iapply h
  isplitl [Hk]
  · iintro H
    rw [wp_ret]
    imodintro
    iapply Hk
    iexact H
  isplitl [Hb]; · iexact Hb
  isplitl [Hs]; · iexact Hs
  isplitl [Hl]; · iexact Hl
  isplitl [Hc]; · iexact Hc
  iexact Ht

end Cert.KernelIdeal.Run
-- ==== Proof.Run.lean ====
module

public import proofs.«01_k».proof.Proof.Tc.Calls

@[expose] public section

set_option maxRecDepth 16384

noncomputable section

/-! The whole program: the tiles' call, the TensorCore's two calls and the final reshape, from the launch memory to the
    result. -/

namespace Cert.KernelIdeal.Run

open Cert.KernelIdeal Cert.KernelIdeal.Gen Cert.KernelIdeal.Tc
open Idealize.ShloMosaic Idealize.ShloMosaic.TcCoe
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg) (d : Dev nD)

/-- The launch contents. -/
def bufs0 : Bufs F := fun c b => m ((c : Thread nD τ).loc b)

/-- The contents after the tiles' call. -/
def bufs1 : Bufs F := fun c => Function.update (bufs0 m c) main_v0 (scOut (xIn m c))

theorem bufs1_self : bufs1 m d main_v0 = scOut (xIn m d) := Function.update_self _ _ _
theorem bufs1_ne (b : Ref sig .tc) (h : b ≠ main_v0) : bufs1 m d b = bufs0 m d b := Function.update_of_ne h _ _

/-- The contents before the reshape. -/
abbrev bufs3 : Bufs F := afterComb (afterTop (bufs1 m))

theorem bufs3_arg : bufs3 m d main_arg0 = m (xLoc d) :=
  (afterComb_ne _ d main_arg0 (by decide)).trans ((afterTop_ne _ d main_arg0 (by decide)).trans (bufs1_ne m d main_arg0 (by decide)))

theorem unscopedBufs_eq (W : (b : Ref sig .tc) → Buf (Elt F) ((d.tc : Thread nD τ).loc b)) :
    (unscopedBufs d W : sProp 𝕄) = iprop((xLoc d ↦{fullShare} W main_arg0) ∗ (sLoc d ↦{fullShare} W main_v0) ∗ (uLoc d ↦{fullShare} W main_v1)
      ∗ (tLoc d ↦{fullShare} W main_v2) ∗ rLoc d ↦{fullShare} W main_v3) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide),
    SparseCore.bigSep_insert' (by decide), bigSep_singleton]

/-! ## The reshape -/

abbrev t' : DevRef τ sig := Proc.devRef .tc (main_v2 : Ref sig .tc)
abbrev r' : DevRef τ sig := Proc.devRef .tc (main_v3 : Ref sig .tc)

/-- The final reshape. -/
abbrev opFlat : HloOp τ sig (Elt F) := StableHlo.reshape main_v2 main_v3 (rfl : (.f32 : EltTy) = .f32) shapeCasts_S1x4096_S4096

/-- The reshape's operand and result. -/
abbrev ends : Finset (DevRef τ sig) := {t', r'}

theorem held_ends (W : Valuation τ sig (Elt F)) :
    (held (SparseCore.T d) ends W : sProp 𝕄) = iprop((tLoc d ↦{fullShare} W t') ∗ rLoc d ↦{fullShare} W r') := by
  unfold held ends
  rw [SparseCore.bigSep_insert' (by decide), bigSep_singleton]

/-- The valuation the reshape meets. -/
def valAt (f : Buf (Elt F) (tLoc d)) : Valuation τ sig (Elt F) := Function.update (fun b => m (d, b)) t' f

theorem valAt_t (f : Buf (Elt F) (tLoc d)) : valAt m d f t' = f := Function.update_self _ _ _
theorem valAt_r (f : Buf (Elt F) (tLoc d)) : valAt m d f r' = m (rLoc d) := Function.update_of_ne (show r' ≠ t' by decide) _ _

/-- What the program leaves as its result. -/
def result : Buf (Elt F) (rLoc d) := (opFlat (F := F)).result (valAt m d (bufs3 m d main_v2)) r'

/-! ## The run -/

/-- What the program leaves: the argument as it was, the result. -/
abbrev FIN : sProp 𝕄 := iprop((xLoc d ↦{fullShare} (m (xLoc d) : Buf (Elt F) (xLoc d))) ∗ (rLoc d ↦{fullShare} result m d))

/-- What is left after the tiles' call, with what the core owes taken out and put back. -/
theorem tcSt_open :
    ((K (F := F)).tcSt EH d 1 : sProp 𝕄) ⊢ iprop(idleOwes d ∗ (idleOwes d -∗ (K (F := F)).tcSt EH d 1)) := by
  have hO : (K (F := F)).Otc (N := 1) d 1 = 0 := Finset.sum_eq_zero fun q _ => if_neg (by have := q.isLt; omega)
  unfold SparseCore.Cfg.tcSt
  rw [hO]
  iintro ⟨⟨%W, %hW, HO⟩, Hr⟩
  isplitl [HO]
  · iexists W
    isplitr; · ipureintro; exact hW
    iexact HO
  iintro ⟨%W', %hW', HO⟩
  isplitl [HO]
  · iexists W'
    isplitr; · ipureintro; exact hW'
    iexact HO
  iexact Hr

/-- The two calls' tickets, out of what the launch deals. -/
theorem G_split : (G d : sProp 𝕄) ⊢ iprop(ticket d 0 ∗ ticket d 1) := by
  unfold G
  rw [show (Finset.univ : Finset (Fin 2)) = {0, 1} by decide, SparseCore.bigSep_insert' (by decide), bigSep_singleton,
    SparseCore.bigSep_insert' (by decide), bigSep_singleton]
  iintro ⟨⟨Hc, Hc'⟩, Ht, Ht'⟩
  isplitl [Hc Ht]
  · isplitl [Hc]; · iexact Hc
    iexact Ht
  isplitl [Hc']; · iexact Hc'
  iexact Ht'

/-- The program on device `d`'s TensorCore, from the launch memory to the result. -/
theorem hmain [∀ e, Nonempty (Elt F e)] (κ : GSem nD τ sig → ℕ) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hs, Hu, Ht, Hr⟩, Hts, -⟩, Hg⟩
  iapply ((K (F := F)).wp_run (D (F := F)) 𝒱 (EH := EH) (P := P m) κ d 0)
  isplitr; · iexact Hctx
  isplitl [Hst]; · iexact Hst
  ihave Hxs := (shares_eq m d (m (sLoc d))).1 $$ [Hx Hs]
  · isplitl [Hx]; · iexact Hx
    iexact Hs
  icases Hxs with ⟨Hx, Hxs⟩
  isplitl [Hxs]; · iexact Hxs
  iintro ⟨Hst, Hxs⟩
  ihave Hxs' := (shares_eq m d (scOut (xIn m d))).2 $$ [Hx Hxs]
  · isplitl [Hx]; · iexact Hx
    iexact Hxs
  icases Hxs' with ⟨Hx, Hs⟩
  ihave Hst1 := (Entails.of_eq (show ((K (F := F)).tcSt EH d ((0 : Fin 1).val + 1) : sProp 𝕄) = (K (F := F)).tcSt EH d 1 from rfl)) $$ Hst
  ihave Hst' := (tcSt_open d) $$ Hst1
  icases Hst' with ⟨Ho, Hst⟩
  ihave Hg' := (G_split d) $$ Hg
  icases Hg' with ⟨Hg0, Hg1⟩
  iapply (wp_topCall (bufs1 m) d)
  isplitl [Hst Hts Hg1]
  swap
  · isplitl [Hb]; · iexact Hb
    isplitl [Hx Hs Hu Ht Hr Ho]
    · isplitr [Ho]
      · rw [unscopedBufs_eq, bufs1_self, bufs1_ne m d main_arg0 (by decide), bufs1_ne m d main_v1 (by decide),
          bufs1_ne m d main_v2 (by decide), bufs1_ne m d main_v3 (by decide)]
        isplitl [Hx]; · iexact Hx
        isplitl [Hs]; · iexact Hs
        isplitl [Hu]; · iexact Hu
        isplitl [Ht]; · iexact Ht
        iexact Hr
      iexact Ho
    isplitr; · iapply (SparseCore.Cfg.ctx_levAts κ); iexact Hctx
    iexact Hg0
  iintro ⟨Hb, Hs⟩
  iapply (wp_combCall (afterTop (bufs1 m)) d)
  isplitl [Hst Hts]
  swap
  · isplitl [Hb]; · iexact Hb
    isplitl [Hs]; · iexact Hs
    isplitr; · iapply (SparseCore.Cfg.ctx_levAts κ); iexact Hctx
    iexact Hg1
  iintro ⟨Hb, Hs, Ho⟩
  ihave Hs' := (Entails.of_eq (unscopedBufs_eq d (bufs3 m d))) $$ Hs
  icases Hs' with ⟨Hx, -, -, Ht, Hr⟩
  iapply (StableHlo.wp_hlo_within 𝒱 (SparseCore.T d) none Set.univ (op := opFlat) (S := ends) (show ({t', r'} : Finset (DevRef τ sig)) ⊆ ends from Finset.Subset.refl _) (V := valAt m d (bufs3 m d main_v2))) $$ [Hb Ht Hr]
  · isplitl [Hb]; · iexact Hb
    rw [held_ends, valAt_t, valAt_r]
    isplitl [Ht]; · iexact Ht
    iexact Hr
  iintro ⟨Hb, Hh⟩
  ihave Hh' := (Entails.of_eq (held_ends d _)) $$ Hh
  icases Hh' with ⟨-, Hr⟩
  rw [wp_ret]
  imodintro
  imodintro
  isplitl [Hst Ho]
  · iapply Hst
    iexact Ho
  isplitr [Hb Hts]
  · rw [bufs3_arg]
    isplitl [Hx]; · iexact Hx
    iexact Hr
  isplitl [Hb] <;> iassumption

/-- The argument is kept and the result holds `result`. -/
def fq (s : Phys nD τ sig (Elt F)) : Prop := s.mem.mem (xLoc d) = m (xLoc d) ∧ s.mem.mem (rLoc d) = result m d

theorem hfin (s : Phys nD τ sig (Elt F)) : iprop(FIN m d ∗ SI s) ⊢ (⌜fq m d s⌝ : sProp 𝕄) := by
  iintro ⟨⟨Hx, Hr⟩, HSI⟩
  ihave H := (persistent_entails_right (SI_pointsTo_agree (st := s) (ℓ := xLoc d) (I := Finset.univ) (q := fullShare) (f := m (xLoc d)))) $$ [HSI Hx]
  · isplitl [HSI] <;> iassumption
  icases H with ⟨%h1, HSI, -⟩
  ihave H := (SI_pointsTo_agree (st := s) (ℓ := rLoc d) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

/-- Every run of the program keeps the argument, leaves `result` and every semaphore at zero. -/
theorem run_main [∀ e, Nonempty (Elt F e)] :
    θ_run (Cert.KernelIdeal.defs (F := F)) (Cert.KernelIdeal.threads (F := F)) ⟨m, fun _ => 0, ρ⟩
      fun r => (∀ c : Dev nD, r.2.mem (xLoc c) = m (xLoc c) ∧ r.2.mem (rLoc c) = result m c) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (fun κ d => hmain m ρ d κ) (fq m) (hfin m) _ (fun _ h hz => ⟨h, hz⟩)

/-- The result is the averages, flattened. -/
theorem result_eq (d : Dev nD) : result m d = fun i => shapeCast S4096 (bufs3 m d main_v2) shapeCasts_S1x4096_S4096 i := by
  have h := StableHlo.reshape_result' (τ := τ) (Val := Elt F) (x := main_v2) (y := main_v3) (rfl : (.f32 : EltTy) = .f32) shapeCasts_S1x4096_S4096
    ⟨by decide, rfl⟩ ⟨by decide, rfl⟩ (valAt m d (bufs3 m d main_v2))
  exact h.trans (by rw [valAt_t]; rfl)

end Cert.KernelIdeal.Run
-- ==== Proof.Frames.lean ====
module

public import proofs.«01_k».proof.Proof.Run
public import proofs.«01_k».proof.Proof.Gen.ReferenceIdeal.Run
public import proofs.«01_k».proof.Proof.Gen.Kernel
public import proofs.«01_k».proof.Defs
public import Idealize.ShloMosaic.Adequacy
public import Idealize.ShloMosaic.Init

@[expose] public section

set_option maxRecDepth 16384

noncomputable section

/-! The three frame claims: what each program leaves in its argument and on its counters. -/

namespace Cert.Proof

open Idealize.ShloMosaic Idealize.SL.Sem

/-- The idealized kernel ends with its argument as it was and every counter at zero. -/
theorem frame_kernelIdeal : Cert.quiescent_KernelIdeal := fun m ρ _ =>
  (θ_run Cert.KernelIdeal.defs _ _).mono (fun _ h => ⟨fun c => (h.1 c).1, h.2⟩)
    (Cert.KernelIdeal.Run.run_main (F := Ideal) m ρ)

/-- The kernel and its idealization run the same function for each label. -/
theorem tables_eq {F : FTy → Type} [FloatOps F] : Cert.Kernel.defs₀ (F := F) = Cert.KernelIdeal.defs₀ := by
  funext p ℓ a
  cases p <;> fin_cases ℓ <;> rfl

/-- So their whole tables agree. -/
theorem defs_eq {F : FTy → Type} [FloatOps F] : Cert.Kernel.defs (F := F) = Cert.KernelIdeal.defs :=
  congrArg (fun t => Cert.KernelIdeal.sc.defs (Pipeline.defs (Cert.KernelIdeal.pcfgs (F := F)) t)) tables_eq

/-- The kernel ends with its argument as it was and every counter at zero. -/
theorem frame_kernel : Cert.quiescent_Kernel := by
  intro m ρ _
  rw [defs_eq]
  exact (θ_run Cert.KernelIdeal.defs Cert.KernelIdeal.threads _).mono (fun _ h => ⟨fun c => (h.1 c).1, h.2⟩)
    (Cert.KernelIdeal.Run.run_main (F := Bits) m ρ)

/-- The reference ends with its argument as it was; it has no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

end Cert.Proof

end
-- ==== Proof.Mean.Fold.lean ====
module

public import proofs.«01_k».proof.Proof.Tc.Top
public import Idealize.ShloMosaic.Lib.Pipeline.Value
public import Idealize.ShloMosaic.PureOps.Ideal.Laws
public import Mathlib.Algebra.BigOperators.Intervals

@[expose] public section

set_option maxRecDepth 16384

noncomputable section

/-! The upper half's body adds 128 rows in seven rounds, each moving every second row to the right and adding it to its
    neighbour. Read over the extended reals, what comes out is one sum over the rows, each moved by its distance from
    the last. -/

namespace Cert.KernelIdeal.Mean

open Idealize.ShloMosaic Cert.KernelIdeal.Gen Cert.KernelIdeal.Tc
open Finset (range)

/-- `n` rows of 2176. -/
abbrev Rows (n : ℕ) : Shape := ⟨2, ![n, 2176]⟩

/-- The rows hold `f`, by row and column. -/
def Holds (n : ℕ) (X : (Rows n).Idx → Ideal .f32) (f : ℕ → ℕ → EReal) : Prop := ∀ j : (Rows n).Idx, X j = f (j 0).val (j 1).val

/-- A place in `n` rows. -/
def place {n : ℕ} (i c : ℕ) (hi : i < n) (hc : c < 2176) : (Rows n).Idx
  | ⟨0, _⟩ => ⟨i, hi⟩
  | ⟨1, _⟩ => ⟨c, hc⟩
  | ⟨_ + 2, h⟩ => absurd h (Nat.not_lt.2 (Nat.le_add_left _ _))

/-- Every second row, the even ones for `o = 0` and the odd ones for `o = 1`. -/
theorem second_rows {α : Type} {m n : ℕ} (hm : m = 2 * n) (o : ℕ) (ho : o < 2) (X : (Rows m).Idx → α)
    (h1 : (Rows m).ShapeCasts ⟨3, ![n, 2, 2176]⟩) (h2 : (⟨3, ![n, 2, 2176]⟩ : Shape).Slices ![0, o, 0] ⟨3, ![n, 1, 2176]⟩)
    (h3 : (⟨3, ![n, 1, 2176]⟩ : Shape).ShapeCasts (Rows n)) (j : (Rows n).Idx) :
    shapeCast (Rows n) (extractStridedSlice ⟨3, ![n, 1, 2176]⟩ ![0, o, 0] (shapeCast ⟨3, ![n, 2, 2176]⟩ X h1) h2) h3 j
      = X (place (2 * (j 0).val + o) (j 1).val (by have : (j 0).val < n := (j 0).isLt; omega) (j 1).isLt) := by
  have hj0 : (j 0).val < n := (j 0).isLt
  have hj1 : (j 1).val < 2176 := (j 1).isLt
  rw [shapeCast_apply _ h3 j (fun a => match a with | ⟨0, _⟩ => ⟨(j 0).val, hj0⟩ | ⟨1, _⟩ => ⟨0, Nat.one_pos⟩ | ⟨2, _⟩ => ⟨(j 1).val, hj1⟩) (by
      rw [Shape.rowMajor_val_three, Shape.rowMajor_val_two]
      show ((j 0).val * 1 + 0) * 2176 + (j 1).val = (j 0).val * 2176 + (j 1).val
      omega),
    extractStridedSlice_apply _ _ h2 _ (fun a => match a with | ⟨0, _⟩ => ⟨(j 0).val, hj0⟩ | ⟨1, _⟩ => ⟨o, ho⟩ | ⟨2, _⟩ => ⟨(j 1).val, hj1⟩) (by
      intro a
      match a with
      | ⟨0, _⟩ => exact (Nat.zero_add _).symm
      | ⟨1, _⟩ => rfl
      | ⟨2, _⟩ => exact (Nat.zero_add _).symm),
    shapeCast_apply _ h1 _ (place (2 * (j 0).val + o) (j 1).val (by omega) hj1) (by
      rw [Shape.rowMajor_val_three, Shape.rowMajor_val_two]
      show (2 * (j 0).val + o) * 2176 + (j 1).val = ((j 0).val * 2 + o) * 2176 + (j 1).val
      omega)]

/-- One round: the even rows moved `p` to the right, onto the odd ones. -/
def roundOf (f : ℕ → ℕ → EReal) (p : ℕ) : ℕ → ℕ → EReal := fun i c => f (2 * i) ((c + 2176 - p) % 2176) + f (2 * i + 1) c

theorem holds_round {m n : ℕ} (hm : m = 2 * n) {X : (Rows m).Idx → Ideal .f32} {f : ℕ → ℕ → EReal} (hX : Holds m X f)
    (k : BitVec 32) (p : ℕ) (hk : k.toNat = p) (hp : p < 2176) (hr : (Rows m).Rotates 1 none)
    (h1 : (Rows m).ShapeCasts ⟨3, ![n, 2, 2176]⟩) (h2 : (⟨3, ![n, 2, 2176]⟩ : Shape).Slices ![0, 0, 0] ⟨3, ![n, 1, 2176]⟩)
    (h2' : (⟨3, ![n, 2, 2176]⟩ : Shape).Slices ![0, 1, 0] ⟨3, ![n, 1, 2176]⟩)
    (h3 : (⟨3, ![n, 1, 2176]⟩ : Shape).ShapeCasts (Rows n)) :
    Holds n (addf (F := Ideal) (φ := .f32)
      (shapeCast (Rows n) (extractStridedSlice ⟨3, ![n, 1, 2176]⟩ ![0, 0, 0] (shapeCast ⟨3, ![n, 2, 2176]⟩ (dynamicRotate 1 k none X hr) h1) h2) h3)
      (shapeCast (Rows n) (extractStridedSlice ⟨3, ![n, 1, 2176]⟩ ![0, 1, 0] (shapeCast ⟨3, ![n, 2, 2176]⟩ X h1) h2') h3)) (roundOf f p) := by
  intro j
  have hj1 : (j 1).val < 2176 := (j 1).isLt
  show (shapeCast (Rows n) _ h3 j + shapeCast (Rows n) _ h3 j : EReal) = _
  rw [second_rows hm 0 (by decide) _ h1 h2 h3 j, second_rows hm 1 (by decide) _ h1 h2' h3 j, hX]
  unfold roundOf
  refine congrArg₂ (· + ·) ?_ rfl
  unfold dynamicRotate
  rw [hX]
  refine congrArg (f (2 * (j 0).val)) ?_
  show ((j 1).val + 2176 - (k.toNat + 0) % 2176) % 2176 = _
  subst hk
  exact congrArg (fun z => ((j 1).val + 2176 - z) % 2176) (Nat.mod_eq_of_lt hp)

/-- `p` rows added, each moved by its distance from the last. -/
def slanted (f : ℕ → ℕ → EReal) (p : ℕ) : ℕ → ℕ → EReal := fun i c => ∑ u ∈ range p, f (p * i + u) ((c + 2176 - (p - 1 - u)) % 2176)

/-- A round doubles the rows added. -/
theorem round_slanted (f : ℕ → ℕ → EReal) (p : ℕ) (hp : p ≤ 64) (i c : ℕ) (hc : c < 2176) :
    roundOf (slanted f p) p i c = slanted f (2 * p) i c := by
  unfold roundOf slanted
  rw [two_mul p, Finset.sum_range_add]
  refine congrArg₂ (· + ·) (Finset.sum_congr rfl fun u hu => ?_) (Finset.sum_congr rfl fun u hu => ?_)
  · have := Finset.mem_range.mp hu
    rw [show p * (2 * i) = (p + p) * i by ring]
    congr 1
    omega
  · have := Finset.mem_range.mp hu
    rw [show p * (2 * i + 1) + u = (p + p) * i + (p + u) by ring]
    congr 1
    omega

theorem Holds.slant {n : ℕ} {X : (Rows n).Idx → Ideal .f32} {f : ℕ → ℕ → EReal} {p : ℕ} (hp : p ≤ 64)
    (h : Holds n X (roundOf (slanted f p) p)) : Holds n X (slanted f (2 * p)) := fun j =>
  (h j).trans (round_slanted f p hp _ _ (j 1).isLt)

end Cert.KernelIdeal.Mean

end
-- ==== Proof.Mean.Columns.lean ====
module

public import proofs.«01_k».proof.Proof.Mean.Fold

@[expose] public section

set_option maxRecDepth 16384

noncomputable section

/-! What the upper half's body adds at a point, over the extended reals: at column `c` the sum over its 128 rows, row `u`
    read `127 - u` columns to the left. -/

namespace Cert.KernelIdeal.Mean

open Idealize.ShloMosaic Cert.KernelIdeal.Gen Cert.KernelIdeal.Tc
open Finset (range)

/-- A place in the 128 staged rows. -/
def spot (u c : ℕ) : S128x2048.Idx
  | ⟨0, _⟩ => ⟨u % 128, Nat.mod_lt _ (by decide)⟩
  | ⟨1, _⟩ => ⟨c % 2048, Nat.mod_lt _ (by decide)⟩
  | ⟨_ + 2, h⟩ => absurd h (Nat.not_lt.2 (Nat.le_add_left _ _))

/-- The staged rows without their last column, zero further right. -/
def padded (x : S128x2048.Idx → Ideal .f32) (u c : ℕ) : EReal := if c < 2047 then x (spot u c) else 0

/-- The rows as the body widens them. -/
def wide (x : S128x2048.Idx → Ideal .f32) : FVec Ideal S128x2176 .f32 :=
  concatenate S128x2176 1
    [⟨S128x2048, select (cmpi .slt (iota .tc S128x2048 32 [1] iota_S128x2048_d1_w32) (broadcast S128x2048 2047#32)) x
      (broadcast S128x2048 (Scalar.ofBits (F := Ideal) .f32 0x00000000#32))⟩,
     ⟨S128x128, broadcast S128x128 (Scalar.ofBits (F := Ideal) .f32 0x00000000#32)⟩] concatenates_S128x2048_S128x128_S128x2176_d1

theorem column_flag : ∀ c : Fin 2048, IntOp.cmpi .slt (BitVec.ofNat 32 c.val) 2047#32 = 1#1 ↔ c.val < 2047 := by decide +kernel

theorem holds_wide (x : S128x2048.Idx → Ideal .f32) : Holds 128 (wide x) (padded x) := by
  intro j
  have h0 : (j 0).val < 128 := (j 0).isLt
  have h1 : (j 1).val < 2176 := (j 1).isLt
  unfold wide padded
  by_cases hc : (j 1).val < 2048
  · rw [concatenate_pair_apply_left (t := S128x2176) (s₁ := S128x2048) (s₂ := S128x128) 1 _ _ _ j rfl (spot (j 0).val (j 1).val) (by
      intro b
      match b with
      | ⟨0, _⟩ => exact Nat.mod_eq_of_lt h0
      | ⟨1, _⟩ => exact Nat.mod_eq_of_lt hc)]
    show (Scalar.select (IntOp.cmpi .slt (iota .tc S128x2048 32 [1] iota_S128x2048_d1_w32 (spot (j 0).val (j 1).val)) 2047#32)
      (x (spot (j 0).val (j 1).val)) (Scalar.ofBits (F := Ideal) .f32 0x00000000#32) : EReal) = _
    rw [iota_single_apply, show (spot (j 0).val (j 1).val 1).val = (j 1).val from Nat.mod_eq_of_lt hc]
    have hf := column_flag ⟨(j 1).val, hc⟩
    dsimp only at hf
    unfold Scalar.select
    by_cases hl : (j 1).val < 2047
    · rw [if_pos hl, hf.mpr hl]; rfl
    · rw [if_neg hl]
      refine (if_neg fun h => hl (hf.mp h)).trans ?_
      exact Ideal.ofBits_zero_f32
  · rw [if_neg (by omega), concatenate_pair_apply_right (t := S128x2176) (s₁ := S128x2048) (s₂ := S128x128) 1 _ _ _ j rfl rfl
      (fun b => match b with | ⟨0, _⟩ => ⟨(j 0).val, h0⟩ | ⟨1, _⟩ => ⟨(j 1).val - 2048, by show _ < 128; omega⟩) (by
      intro b hb
      match b with
      | ⟨0, _⟩ => rfl
      | ⟨1, _⟩ => exact absurd rfl hb) (by show (j 1).val - 2048 + 2048 = (j 1).val; omega)]
    exact Ideal.ofBits_zero_f32

/-- Seven rounds on, the one row left holds all 128 rows' sum. -/
theorem holds_slanted (x : S128x2048.Idx → Ideal .f32) : Holds 1 (colSums x) (slanted (padded x) 128) := by
  have s0 : Holds 128 (wide x) (slanted (padded x) 1) := fun j => by
    have h1 : (j 1).val < 2176 := (j 1).isLt
    rw [holds_wide x j]
    unfold slanted
    rw [Finset.sum_range_one]
    congr 1
    · omega
    · omega
  have s1 := (holds_round (n := 64) rfl s0 1#32 1 rfl (by decide) rotates_S128x2176_d1 shapeCasts_S128x2176_S64x2x2176
    slices_S64x2x2176_o0_0_0_S64x1x2176 slices_S64x2x2176_o0_1_0_S64x1x2176 shapeCasts_S64x1x2176_S64x2176).slant (by decide)
  have s2 := (holds_round (n := 32) rfl s1 2#32 2 rfl (by decide) rotates_S64x2176_d1 shapeCasts_S64x2176_S32x2x2176
    slices_S32x2x2176_o0_0_0_S32x1x2176 slices_S32x2x2176_o0_1_0_S32x1x2176 shapeCasts_S32x1x2176_S32x2176).slant (by decide)
  have s3 := (holds_round (n := 16) rfl s2 4#32 4 rfl (by decide) rotates_S32x2176_d1 shapeCasts_S32x2176_S16x2x2176
    slices_S16x2x2176_o0_0_0_S16x1x2176 slices_S16x2x2176_o0_1_0_S16x1x2176 shapeCasts_S16x1x2176_S16x2176).slant (by decide)
  have s4 := (holds_round (n := 8) rfl s3 8#32 8 rfl (by decide) rotates_S16x2176_d1 shapeCasts_S16x2176_S8x2x2176
    slices_S8x2x2176_o0_0_0_S8x1x2176 slices_S8x2x2176_o0_1_0_S8x1x2176 shapeCasts_S8x1x2176_S8x2176).slant (by decide)
  have s4' : Holds 8 (k1_pay4 x) (slanted (padded x) 16) := s4
  have s5 := (holds_round (n := 4) rfl s4' 16#32 16 rfl (by decide) rotates_S8x2176_d1 shapeCasts_S8x2176_S4x2x2176
    slices_S4x2x2176_o0_0_0_S4x1x2176 slices_S4x2x2176_o0_1_0_S4x1x2176 shapeCasts_S4x1x2176_S4x2176).slant (by decide)
  have s6 := (holds_round (n := 2) rfl s5 32#32 32 rfl (by decide) rotates_S4x2176_d1 shapeCasts_S4x2176_S2x2x2176
    slices_S2x2x2176_o0_0_0_S2x1x2176 slices_S2x2x2176_o0_1_0_S2x1x2176 shapeCasts_S2x1x2176_S2x2176).slant (by decide)
  have s7 := (holds_round (n := 1) rfl s6 64#32 64 rfl (by decide) rotates_S2x2176_d1 shapeCasts_S2x2176_S1x2x2176
    slices_S1x2x2176_o0_0_0_S1x1x2176 slices_S1x2x2176_o0_1_0_S1x1x2176 shapeCasts_S1x1x2176_S1x2176).slant (by decide)
  exact s7

end Cert.KernelIdeal.Mean

end
-- ==== Proof.Mean.Bands.lean ====
module

public import proofs.«01_k».proof.Proof.Mean.Columns
public import proofs.«01_k».proof.Proof.Tc.Data

@[expose] public section

set_option maxRecDepth 16384

noncomputable section

/-! One point of the upper half's grid, over the extended reals: it adds its 2176 column sums from one offset on. -/

namespace Cert.KernelIdeal.Mean

open Idealize.ShloMosaic Cert.KernelIdeal.Gen Cert.KernelIdeal.Tc Cert.KernelIdeal.Run
open Finset (range)

/-- `f` moved right to start at `o`, zero outside its 2176 places. -/
def moved (o : ℕ) (f : ℕ → EReal) (p : ℕ) : EReal := if o ≤ p ∧ p < o + 2176 then f (p - o) else 0

/-- The sum the body stores is the elements' sum. -/
theorem pay1_apply (cs v : FVec Ideal S1x2176 .f32) (j : S1x2176.Idx) : k1_pay1 cs v j = (v j + cs j : EReal) := by
  have hj0 : (j 0).val < 1 := (j 0).isLt
  have hj1 : (j 1).val < 2176 := (j 1).isLt
  have hl : ∀ X : FVec Ideal S1x2176 .f32, shapeCast S2176 X shapeCasts_S1x2176_S2176 (Shape.ofLane (d := ![2176]) ⟨(j 1).val, hj1⟩) = X j := fun X =>
    shapeCast_apply X shapeCasts_S1x2176_S2176 _ j (by
      rw [Shape.rowMajor_val_one, Shape.rowMajor_val_two]
      show (j 0).val * 2176 + (j 1).val = (j 1).val
      omega)
  unfold k1_pay1
  refine (shapeCast_apply _ shapeCasts_S2176_S1x2176 j (Shape.ofLane (d := ![2176]) ⟨(j 1).val, hj1⟩) (by
    rw [Shape.rowMajor_val_one, Shape.rowMajor_val_two]
    show (j 1).val = (j 0).val * 2176 + (j 1).val
    omega)).trans ?_
  exact congrArg₂ (fun a b : EReal => a + b) (hl v) (hl cs)

/-- A band's addition, at every place. -/
theorem addBand_apply (o : ℕ) (hb : Fits o) (cs : FVec Ideal S1x2176 .f32) (f : ℕ → EReal) (hcs : ∀ j, cs j = f (j 1).val)
    (h : Upper Ideal) (p : S1x4224.Idx) : addBand o hb cs h p = (h p + moved o f (p 1).val : EReal) := by
  have hp0 : (p 0).val < 1 := (p 0).isLt
  unfold addBand moved
  by_cases hm : o ≤ (p 1).val ∧ (p 1).val < o + 2176
  · let j : S1x2176.Idx := fun a => match a with
      | ⟨0, _⟩ => ⟨0, Nat.one_pos⟩
      | ⟨1, _⟩ => ⟨(p 1).val - o, by show _ < 2176; omega⟩
    have hj : (band o hb).emb j = p := by
      funext a
      refine Fin.ext ?_
      match a with
      | ⟨0, _⟩ => show 0 + 1 * 0 = (p 0).val; omega
      | ⟨1, _⟩ => show o + 1 * ((p 1).val - o) = (p 1).val; omega
    rw [if_pos hm]
    have e := (band o hb).overlay_emb h (k1_pay1 cs fun x => h ((band o hb).emb x)) j
    rw [pay1_apply, hj, hcs] at e
    exact e
  · rw [if_neg hm]
    refine ((band o hb).overlay_of_not_mem _ _ fun hs => hm ?_).trans (add_zero (M := EReal) _).symm
    exact Rect.mem_set_unit.mp hs 1

/-- Where point `n` adds its sums. -/
def offsetOf (n : ℕ) : ℕ := 1921 - 128 * n

theorem applyIf_pos {α : Type} {b : BitVec 1} (hb : b = 1#1) (f : α → α) (h : α) : applyIf b f h = f h := if_pos hb
theorem applyIf_neg {α : Type} {b : BitVec 1} (hb : ¬ b = 1#1) (f : α → α) (h : α) : applyIf b f h = h := if_neg hb

/-- The flags of the eight additions: each point sets its own and no other. -/
theorem flags : ∀ n : Fin 8,
    (k1_cond1 (pointOf n) = 1#1 ↔ n.val = 0) ∧ (k1_cond2 (pointOf n) = 1#1 ↔ n.val = 0) ∧ (k1_cond3 (pointOf n) = 1#1 ↔ n.val = 1)
    ∧ (k1_cond4 (pointOf n) = 1#1 ↔ n.val = 2) ∧ (k1_cond5 (pointOf n) = 1#1 ↔ n.val = 3) ∧ (k1_cond6 (pointOf n) = 1#1 ↔ n.val = 4)
    ∧ (k1_cond7 (pointOf n) = 1#1 ↔ n.val = 5) ∧ (k1_cond8 (pointOf n) = 1#1 ↔ n.val = 6) ∧ (k1_cond9 (pointOf n) = 1#1 ↔ n.val = 7) := by
  decide

/-- A conditional addition, at every place. -/
theorem applyIf_band (b : BitVec 1) (q : Prop) [Decidable q] (hq : b = 1#1 ↔ q) (o : ℕ) (hb : Fits o) (cs : FVec Ideal S1x2176 .f32) (f : ℕ → EReal)
    (hcs : ∀ j, cs j = f (j 1).val) (h : Upper Ideal) (p : S1x4224.Idx) :
    applyIf b (addBand o hb cs) h p = (h p + if q then moved o f (p 1).val else 0 : EReal) := by
  by_cases hc : q
  · rw [applyIf_pos (hq.mpr hc), if_pos hc]; exact addBand_apply o hb cs f hcs h p
  · rw [applyIf_neg (mt hq.mp hc), if_neg hc]; exact (add_zero (M := EReal) _).symm

/-- One point: its column sums added at its own offset. -/
theorem topStep_apply (n : Fin 8) (x : S128x2048.Idx → Ideal .f32) (h : Upper Ideal) (h0 : n.val = 0 → h = k1_pay3) (p : S1x4224.Idx) :
    topStep (pointOf n) x h p = (h p + moved (offsetOf n.val) (slanted (padded x) 128 0) (p 1).val : EReal) := by
  have hcs : ∀ j, colSums x j = slanted (padded x) 128 0 (j 1).val := fun j => by
    have hj0 : (j 0).val = 0 := by have : (j 0).val < 1 := (j 0).isLt; omega
    rw [holds_slanted x j, hj0]
  obtain ⟨c1, c2, c3, c4, c5, c6, c7, c8, c9⟩ := flags n
  have hi : topInit (pointOf n) h = h := by
    unfold topInit
    by_cases hn : n.val = 0
    · rw [applyIf_pos (c1.mpr hn), h0 hn]
    · rw [applyIf_neg (mt c1.mp hn)]
  unfold topStep topLow
  rw [applyIf_band _ _ c9 _ _ _ _ hcs, applyIf_band _ _ c8 _ _ _ _ hcs, applyIf_band _ _ c7 _ _ _ _ hcs, applyIf_band _ _ c6 _ _ _ _ hcs,
    applyIf_band _ _ c5 _ _ _ _ hcs, applyIf_band _ _ c4 _ _ _ _ hcs, applyIf_band _ _ c3 _ _ _ _ hcs, applyIf_band _ _ c2 _ _ _ _ hcs, hi]
  unfold offsetOf
  obtain ⟨n, hn⟩ := n
  dsimp only
  clear c1 c2 c3 c4 c5 c6 c7 c8 c9 hi h0
  interval_cases n <;> simp

end Cert.KernelIdeal.Mean

end
-- ==== Proof.Mean.Diag.lean ====
module

public import proofs.«01_k».proof.Proof.Sc.Tile
public import Mathlib.Algebra.BigOperators.Intervals
public import Idealize.ShloMosaic.PureOps.Ideal.Laws

@[expose] public section

set_option maxRecDepth 16384

noncomputable section

/-! A diagonal's kept elements and their sum, and what the tiles' sums are over the extended reals: the sums of the
    kept elements of their own rows. -/

namespace Cert.KernelIdeal.Mean

open Idealize.ShloMosaic Cert.KernelIdeal.Row
open Finset (range)

/-- The matrix, over the extended reals. -/
abbrev Matrix : Type := S2048x2048.Idx → Ideal .f32

/-- What row `r` gives diagonal `b`: its element there if the row keeps it, else zero. -/
def kept (x : Matrix) (b r : ℕ) : EReal := if Keeps r 2048 b (b + r - 2048) then x (cell r (b + r - 2048)) else 0

/-- The sum of diagonal `b`'s kept elements. -/
def diagSum (x : Matrix) (b : ℕ) : EReal := ∑ r ∈ range 2048, kept x b r

/-- A row adds its kept elements. -/
theorem rowUpd_ideal (x : Matrix) (r : ℕ) (g : Sums Ideal) (b : S4096.Idx) :
    rowUpd r (xRow x r) 2048 g b = (g b + kept x (b 0).val r : EReal) := by
  unfold rowUpd kept
  by_cases h : Keeps r 2048 (b 0).val ((b 0).val + r - 2048)
  · rw [if_pos h, if_pos h]
    unfold comb
    split <;> rfl
  · rw [if_neg h, if_neg h]
    exact (add_zero (M := EReal) _).symm

/-- A block of rows adds theirs. -/
theorem blockUpd_ideal (x : Matrix) (base : ℕ) (g : Sums Ideal) (b : S4096.Idx) : ∀ n : ℕ,
    blockUpd x base n g b = (g b + ∑ k ∈ range n, kept x (b 0).val (base + k) : EReal)
  | 0 => by rw [blockUpd, Finset.sum_range_zero]; exact (add_zero (M := EReal) _).symm
  | n + 1 => by rw [blockUpd, rowUpd_ideal, blockUpd_ideal x base g b n, Finset.sum_range_succ, add_assoc]

theorem zero_word : (Scalar.ofBits (F := Ideal) .f32 0x00000000#32 : EReal) = 0 := by
  exact Ideal.ofBits_zero_f32

/-- A tile's sums are its two blocks'. -/
theorem tileSums_ideal (x : Matrix) (w : ℕ) (b : S4096.Idx) :
    (tileSums x w b : EReal) = ∑ k ∈ range 16, kept x (b 0).val ((64 + w) * 16 + k)
      + ∑ k ∈ range 16, kept x (b 0).val ((127 - w) * 16 + k) := by
  unfold tileSums
  rw [blockUpd_ideal, blockUpd_ideal]
  rw [show (zeroSums (F := Ideal) b : EReal) = 0 from zero_word, zero_add]

/-- A sum by blocks of `m` is the whole sum. -/
theorem sum_blocks (f : ℕ → EReal) (m : ℕ) : ∀ n : ℕ, ∑ w ∈ range n, ∑ k ∈ range m, f (w * m + k) = ∑ r ∈ range (n * m), f r
  | 0 => by simp
  | n + 1 => by rw [Finset.sum_range_succ, sum_blocks f m n, Nat.succ_mul, Finset.sum_range_add]

/-- The tiles' sums together are the lower half's rows'. -/
theorem tiles_ideal (x : Matrix) (b : S4096.Idx) :
    ∑ w ∈ range 32, (tileSums x w b : EReal) = ∑ r ∈ range 1024, kept x (b 0).val (1024 + r) := by
  simp only [tileSums_ideal]
  rw [Finset.sum_add_distrib]
  have h2 : ∑ w ∈ range 32, ∑ k ∈ range 16, kept x (b 0).val ((127 - w) * 16 + k)
      = ∑ w ∈ range 32, ∑ k ∈ range 16, kept x (b 0).val (1536 + (w * 16 + k)) := by
    rw [← Finset.sum_range_reflect]
    refine Finset.sum_congr rfl fun w hw => Finset.sum_congr rfl fun k _ => ?_
    have := Finset.mem_range.mp hw
    congr 1
    omega
  have h1 : ∑ w ∈ range 32, ∑ k ∈ range 16, kept x (b 0).val ((64 + w) * 16 + k)
      = ∑ w ∈ range 32, ∑ k ∈ range 16, kept x (b 0).val (1024 + (w * 16 + k)) := by
    refine Finset.sum_congr rfl fun w hw => Finset.sum_congr rfl fun k _ => ?_
    congr 1
    omega
  rw [h1, h2, sum_blocks (fun r => kept x (b 0).val (1024 + r)), sum_blocks (fun r => kept x (b 0).val (1536 + r))]
  refine ((Finset.sum_range_add (fun r => kept x (b 0).val (1024 + r)) (32 * 16) (32 * 16)).trans ?_).symm
  refine congrArg₂ (· + ·) rfl (Finset.sum_congr rfl fun r _ => congrArg (kept x (b 0).val) ?_)
  omega

end Cert.KernelIdeal.Mean

end
-- ==== Proof.Mean.Upper.lean ====
module

public import proofs.«01_k».proof.Proof.Mean.Bands
public import proofs.«01_k».proof.Proof.Mean.Diag

@[expose] public section

set_option maxRecDepth 16384

noncomputable section

/-! The upper half's sums after all eight points, over the extended reals: on every diagonal the kept elements of the rows
    `0 .. 1023`. -/

namespace Cert.KernelIdeal.Mean

open Idealize.ShloMosaic Cert.KernelIdeal.Gen Cert.KernelIdeal.Tc Cert.KernelIdeal.Run Cert.KernelIdeal.Row
open Finset (range)

/-- Point `s` adds to diagonal `b` what its 128 rows keep there. -/
theorem moved_rows (x : Matrix) (R : S128x2048.Idx → Ideal .f32) (s b : ℕ) (hs : s < 8)
    (hR : ∀ u c, u < 128 → c < 2047 → R (spot u c) = x (cell (s * 128 + u) c)) :
    moved (offsetOf s) (slanted (padded R) 128 0) b = ∑ u ∈ range 128, kept x b (s * 128 + u) := by
  unfold moved offsetOf
  split
  · rename_i h
    unfold slanted
    refine Finset.sum_congr rfl fun u hu => ?_
    have hu : u < 128 := Finset.mem_range.mp hu
    unfold padded kept
    rw [Nat.mul_zero, Nat.zero_add]
    by_cases hk : 127 ≤ b - (1921 - 128 * s) + u
    · have e : (b - (1921 - 128 * s) + 2176 - (128 - 1 - u)) % 2176 = b + (s * 128 + u) - 2048 := by omega
      rw [e]
      by_cases hc : b + (s * 128 + u) - 2048 < 2047
      · rw [if_pos hc, if_pos (by unfold Keeps; omega), hR u _ hu hc]
      · rw [if_neg hc, if_neg (by unfold Keeps; omega)]
    · rw [if_neg (by omega), if_neg (by unfold Keeps; omega)]
  · rename_i h
    refine (Finset.sum_eq_zero fun u hu => ?_).symm
    have hu : u < 128 := Finset.mem_range.mp hu
    unfold kept
    rw [if_neg (by unfold Keeps; omega)]

theorem coords_val : ∀ t : Fin grid1.N, ((grid1.coords t) 0).val = t.val := by decide

theorem coords_pointOf (n : Fin 8) (h : n.val < cfg1.N) : grid1.coords ⟨n.val, h⟩ = pointOf n :=
  (eq_pointOf _).trans (congrArg pointOf (Fin.ext (coords_val ⟨n.val, h⟩)))

variable (V : Bufs Ideal) (c : Dev nD)

/-- The running sums: each point's rows added. -/
theorem upperAt_apply (x : Matrix)
    (hR : ∀ (t : Fin cfg1.N) u k, u < 128 → k < 2047 → rowsAt V c t (spot u k) = x (cell (t.val * 128 + u) k)) (p : S1x4224.Idx) :
    ∀ n : ℕ, n ≤ 8 → (upperAt V c n p : EReal) = ∑ r ∈ range (n * 128), kept x (p 1).val r
  | 0, _ => by
    rw [Nat.zero_mul, Finset.sum_range_zero]
    exact Ideal.ofBits_zero_f32
  | n + 1, hn => by
    have hN : n < cfg1.N := lt_of_lt_of_eq (by omega : n < 8) N_1.symm
    rw [upperAt, dif_pos hN, coords_pointOf ⟨n, by omega⟩ hN, topStep_apply ⟨n, by omega⟩ _ _ (by
        intro h0
        dsimp only at h0
        subst h0
        rfl), upperAt_apply x hR p n (by omega),
      moved_rows x _ n _ (by omega) (hR ⟨n, hN⟩), Nat.succ_mul, Finset.sum_range_add]

end Cert.KernelIdeal.Mean

end
-- ==== Proof.Mean.Arrays.lean ====
module

public import proofs.«01_k».proof.Proof.Run
public import proofs.«01_k».proof.Proof.Mean.Upper
public import Idealize.ShloMosaic.Lib.Pipeline.Value

@[expose] public section

set_option maxRecDepth 16384

noncomputable section

/-! What the TensorCore's two calls stage from the arrays and leave in them. -/

namespace Cert.KernelIdeal.Run

open Cert.KernelIdeal.Gen Cert.KernelIdeal.Tc Cert.KernelIdeal.Row
open Idealize.ShloMosaic Idealize.ShloMosaic.TcCoe
open Idealize.ShloMosaic.Pipeline (Dat Cfg Window)

variable {F : FTy → Type} [FloatOps F] (V : Bufs F) (c : Dev nD)

/-- The last call stages the partial sums whole. -/
theorem partsIn_eq : partsIn V c = V c main_v0 := by
  have hz : (fun a => (win2_0.index t2_0) a * main_v0.ty.shape.size a) = fun _ => 0 := funext fun a => by fin_cases a <;> decide
  exact Memref.read_access_unit_zero (Elt F) main_v0 hz (fun a => by fin_cases a <;> decide) (V c main_v0)

/-- The last call stages the upper half's sums whole. -/
theorem upperIn_eq : upperIn V c = V c main_v1 := by
  have hz : (fun a => (win2_1.index t2_0) a * main_v1.ty.shape.size a) = fun _ => 0 := funext fun a => by fin_cases a <;> decide
  exact Memref.read_access_unit_zero (Elt F) main_v1 hz (fun a => by fin_cases a <;> decide) (V c main_v1)

/-- The last call leaves the averages in its result. -/
theorem combArr_eq : (combDat V c).arrAt 2 cfg2.N = averages (V c main_v0) (V c main_v1) := by
  have ho : ((cfg2.win 2).blk t2_0).view.read (Elt F) ((combDat V c).arrAt 2 cfg2.N) = (combDat V c).flushed 2 t2_0 := by
    rw [show cfg2.N = (t2_0 : Fin cfg2.N).val + 1 from N_2, (combDat V c).arrAt_succ 2 t2_0, if_pos (flush2_2 t2_0)]
    exact View.read_write_univ _ _
  have hz : (fun a => (win2_2.index t2_0) a * main_v2.ty.shape.size a) = fun _ => 0 := funext fun a => by fin_cases a <;> decide
  have hr := Memref.read_access_unit_zero (Elt F) main_v2 hz (fun a => by fin_cases a <;> decide) ((combDat V c).arrAt 2 cfg2.N)
  refine hr.symm.trans (ho.trans ?_)
  show averages (partsIn V c) (upperIn V c) = _
  rw [partsIn_eq, upperIn_eq]

/-- The upper half's call leaves the running sums after its eight points. -/
theorem topArr_eq : (topDat V c).arrAt 1 cfg1.N = upperAt V c 8 := by
  have ho : ((cfg1.win 1).blk t1_7).view.read (Elt F) ((topDat V c).arrAt 1 cfg1.N) = (topDat V c).flushed 1 t1_7 := by
    rw [show cfg1.N = (t1_7 : Fin cfg1.N).val + 1 from N_1, (topDat V c).arrAt_succ 1 t1_7, if_pos ((flush1_1 t1_7).mpr (by decide))]
    exact View.read_write_univ _ _
  have hz : (fun a => (win1_1.index t1_7) a * main_v1.ty.shape.size a) = fun _ => 0 := funext fun a => by fin_cases a <;> decide
  have hr := Memref.read_access_unit_zero (Elt F) main_v1 hz (fun a => by fin_cases a <;> decide) ((topDat V c).arrAt 1 cfg1.N)
  exact hr.symm.trans ho

theorem index_rows : ∀ t : Fin grid1.N, win1_0.index t 0 = t.val ∧ win1_0.index t 1 = 0 := by decide

/-- Point `t` stages rows `128 t .. 128 t + 127` of the argument. -/
theorem rowsAt_apply (t : Fin cfg1.N) (u k : ℕ) (hu : u < 128) (hk : k < 2048) :
    rowsAt V c t (Mean.spot u k) = V c main_arg0 (cell (t.val * 128 + u) k) := by
  obtain ⟨i0, i1⟩ := index_rows t
  have h0 : ((((cfg1.win 0).blk t).view.emb (Mean.spot u k) : S2048x2048.Idx) 0).val = t.val * 128 + u := by
    show win1_0.index t 0 * 128 + 1 * (u % 128) = _
    rw [i0]; omega
  have h1 : ((((cfg1.win 0).blk t).view.emb (Mean.spot u k) : S2048x2048.Idx) 1).val = k := by
    show win1_0.index t 1 * 2048 + 1 * (k % 2048) = _
    rw [i1]; omega
  exact congrArg (V c main_arg0) (cell_eq _ _ _ h0 h1)

end Cert.KernelIdeal.Run

end
-- ==== Proof.Mean.Average.lean ====
module

public import proofs.«01_k».proof.Proof.Mean.Arrays

@[expose] public section

set_option maxRecDepth 16384

noncomputable section

/-! The kernel's result over the extended reals: at every diagonal the sum of its kept elements, divided by their number. -/

namespace Cert.KernelIdeal.Mean

open Cert.KernelIdeal.Gen Cert.KernelIdeal.Tc Cert.KernelIdeal.Row Cert.KernelIdeal.Run
open Idealize.ShloMosaic Idealize.ShloMosaic.TcCoe
open Finset (range)

/-- How many elements diagonal `b` keeps. -/
def number (b : ℕ) : ℕ := if b < 2048 then 2 * b - 2049 else 4095 - b

/-- Diagonal `b`'s number as the last body computes it. -/
def numberWord (b : BitVec 32) : BitVec 32 :=
  IntOp.maxsi (Scalar.select (IntOp.cmpi .slt b 2048#32) (2#32 * b - 2048#32 - 1#32) (4095#32 - b)) 0#32

theorem numberWord_eq : ∀ b : Fin 4096, (numberWord (BitVec.ofNat 32 b.val)).toInt = (number b.val : ℤ) := by decide +kernel

/-- A sum of rows, by column. -/
theorem reduceRows (p : S32x4096.Idx → Ideal .f32) (f : ℕ → ℕ → EReal) (hp : ∀ j, p j = f (j 0).val (j 1).val) (j : S4096.Idx) :
    (multiReduction (F := Ideal) (φ := .f32) .add [0] S4096 p 0x00000000#32 reduces_S32x4096_S4096 (.inl rfl) rfl j : EReal) = ∑ w ∈ range 32, f w (j 0).val := by
  refine (Ideal.multiReduction_add_single (a := 0) p _ _ _ _ j).trans ?_
  rw [← Fin.sum_univ_eq_sum_range (fun w => f w (j 0).val) 32]
  exact Finset.sum_congr rfl fun k _ => (hp _).trans rfl

/-- The averages, read at a diagonal. -/
theorem averages_apply (p : S32x4096.Idx → Ideal .f32) (f : ℕ → ℕ → EReal) (hp : ∀ j, p j = f (j 0).val (j 1).val)
    (u : Upper Ideal) (g : ℕ → EReal) (hu : ∀ j, u j = g (j 1).val) (j : S1x4096.Idx) :
    averages p u j = Ideal.div (∑ w ∈ range 32, f w (j 1).val + g (j 1).val) (((number (j 1).val : ℤ) : ℝ) : EReal) := by
  have hj0 : (j 0).val < 1 := (j 0).isLt
  have hj1 : (j 1).val < 4096 := (j 1).isLt
  unfold averages k2_pay1
  refine congrArg₂ Ideal.div (congrArg₂ (fun a b : EReal => a + b) ?_ ?_) ?_
  · rw [shapeCast_self]
    refine (shapeCast_apply _ shapeCasts_S4096_S1x4096 j (Shape.ofLane (d := ![4096]) ⟨(j 1).val, hj1⟩) (by
      rw [Shape.rowMajor_val_one, Shape.rowMajor_val_two]
      show (j 1).val = (j 0).val * 4096 + (j 1).val
      omega)).trans ?_
    exact reduceRows p f hp _
  · rw [shapeCast_self, hu]
    refine congrArg g ?_
    show 0 + 1 * (j 1).val = (j 1).val
    omega
  · refine Eq.trans ?_ (congrArg (fun z : ℤ => ((z : ℝ) : EReal)) (numberWord_eq ⟨(j 1).val, hj1⟩))
    show (((numberWord (iota .tc S1x4096 32 [1] iota_S1x4096_d1_w32 j)).toInt : ℝ) : EReal) = _
    rw [iota_single_apply]

variable (m : (ℓ : Loc nD τ sig) → Buf (Elt Ideal) ℓ) (d : Dev nD)

/-- The kernel's result at a diagonal. -/
theorem result_apply (b : S4096.Idx) :
    (result m d b : EReal) = Ideal.div (diagSum (xIn m d) (b 0).val) (((number (b 0).val : ℤ) : ℝ) : EReal) := by
  have hb : (b 0).val < 4096 := (b 0).isLt
  rw [result_eq]
  dsimp only
  rw [shapeCast_apply _ shapeCasts_S1x4096_S4096 b
    (fun a => match a with | ⟨0, _⟩ => ⟨0, Nat.one_pos⟩ | ⟨1, _⟩ => ⟨(b 0).val, hb⟩ : S1x4096.Idx) (by
      rw [Shape.rowMajor_val_one, Shape.rowMajor_val_two]
      show 0 * 4096 + (b 0).val = (b 0).val
      omega)]
  have hc : bufs3 m d main_v2 = averages (scOut (xIn m d)) (upperAt (bufs1 m) d 8) := by
    rw [bufs3, afterComb_self, combArr_eq, afterTop_self, topArr_eq, afterTop_ne _ d main_v0 (by decide), bufs1_self]
  rw [hc]
  refine (averages_apply _ (fun w b => tileSums (F := Ideal) (xIn m d) w (Shape.ofLane (d := ![4096]) (Fin.ofNat 4096 b))) (fun j => ?_) _
    (fun p => ∑ r ∈ range (8 * 128), kept (xIn m d) p r) (fun p => ?_) _).trans ?_
  · unfold scOut
    have h1 : (j 1).val < 4096 := (j 1).isLt
    refine congrArg (fun i => tileSums (F := Ideal) (xIn m d) (j 0).val (Shape.ofLane (d := ![4096]) i)) (Fin.ext ?_)
    exact (Nat.mod_eq_of_lt h1).symm
  · refine upperAt_apply (bufs1 m) d (xIn m d) (fun t u k hu hk => ?_) p 8 le_rfl
    rw [rowsAt_apply _ _ t u k hu (by omega), bufs1_ne m d main_arg0 (by decide)]
    rfl
  · refine congrArg (fun z : EReal => Ideal.div z _) ?_
    dsimp only
    rw [tiles_ideal]
    have e : ((Shape.ofLane (d := ![4096]) (Fin.ofNat 4096 (b 0).val) : S4096.Idx) 0).val = (b 0).val := Nat.mod_eq_of_lt hb
    rw [e, add_comm]
    exact (Finset.sum_range_add (fun r => kept (xIn m d) (b 0).val r) 1024 1024).symm

end Cert.KernelIdeal.Mean

end
-- ==== Proof.Mean.Words.lean ====
module

public import proofs.«01_k».proof.Proof.Mean.Average

@[expose] public section

set_option maxRecDepth 16384

noncomputable section

/-! The reference's words for the element at row `r` and column `c` — its diagonal and whether it is kept — and the sums
    over all elements of one diagonal. -/

namespace Cert.KernelIdeal.Mean

open Idealize.ShloMosaic Cert.KernelIdeal.Row
open Finset (range)

/-- A difference of words that does not wrap. -/
theorem sub_toInt (a b : BitVec 32) (h1 : -2147483648 ≤ a.toInt - b.toInt) (h2 : a.toInt - b.toInt < 2147483648) :
    (a - b).toInt = a.toInt - b.toInt := by
  rw [BitVec.toInt_sub, Int.bmod_def]; omega

/-- A sum of words that does not wrap. -/
theorem add_toInt (a b : BitVec 32) (h1 : -2147483648 ≤ a.toInt + b.toInt) (h2 : a.toInt + b.toInt < 2147483648) :
    (a + b).toInt = a.toInt + b.toInt := by
  rw [BitVec.toInt_add, Int.bmod_def]; omega

/-- A negated word that does not wrap. -/
theorem neg_toInt (a : BitVec 32) (h1 : -2147483648 < a.toInt) : (-a).toInt = -a.toInt := by
  have := BitVec.toInt_lt (x := a)
  rw [BitVec.toInt_neg, Int.bmod_def]; omega

/-- The absolute value of a word that does not wrap. -/
theorem abs_toInt (a : BitVec 32) (h1 : -2147483648 < a.toInt) : (IntOp.absi a).toInt = |a.toInt| := by
  unfold IntOp.absi
  rw [BitVec.msb_eq_toInt]
  by_cases h : a.toInt < 0
  · rw [if_pos (decide_eq_true h), neg_toInt a h1, abs_of_neg h]
  · rw [if_neg (by simpa using h), abs_of_nonneg (not_lt.mp h)]

/-- The larger of two words. -/
theorem max_toInt (a b : BitVec 32) : (IntOp.maxsi a b).toInt = max a.toInt b.toInt := by
  unfold IntOp.maxsi
  by_cases h : b.toInt < a.toInt
  · rw [if_pos (by simpa [BitVec.slt] using h), max_eq_left h.le]
  · rw [if_neg (by simpa [BitVec.slt] using h), max_eq_right (not_lt.mp h)]

/-- A small number as a word. -/
theorem ofNat_toInt (n : ℕ) (h : n < 4096) : (BitVec.ofNat 32 n).toInt = n := by
  have e : (BitVec.ofNat 32 n).toNat = n := Nat.mod_eq_of_lt (by omega)
  rw [BitVec.toInt_eq_toNat_of_lt (by rw [e]; omega), e]

/-- The diagonal of the element at row `r`, column `c`. -/
def diagWord (r c : BitVec 32) : BitVec 32 := c - r + 2048#32

/-- Whether the element at row `r`, column `c` is kept. -/
def keptWord (r c : BitVec 32) : BitVec 1 :=
  IntOp.andi (IntOp.cmpi .sge r (IntOp.maxsi 0#32 (-(c - r)))) (IntOp.cmpi .slt r (2047#32 - IntOp.absi (c - r)))

theorem diagWord_eq (r c : ℕ) (hr : r < 2048) (hc : c < 2048) :
    (diagWord (BitVec.ofNat 32 r) (BitVec.ofNat 32 c)).toInt = ((c + 2048 - r : ℕ) : ℤ) := by
  have er := ofNat_toInt r (by omega)
  have ec := ofNat_toInt c (by omega)
  have e := sub_toInt (BitVec.ofNat 32 c) (BitVec.ofNat 32 r) (by omega) (by omega)
  have ek : (2048#32 : BitVec 32).toInt = 2048 := by decide
  unfold diagWord
  rw [add_toInt _ _ (by omega) (by omega)]
  omega

theorem keptWord_eq (r c : ℕ) (hr : r < 2048) (hc : c < 2048) :
    keptWord (BitVec.ofNat 32 r) (BitVec.ofNat 32 c) = 1#1 ↔ Keeps r 2048 (c + 2048 - r) c := by
  have er := ofNat_toInt r (by omega)
  have ec := ofNat_toInt c (by omega)
  have e := sub_toInt (BitVec.ofNat 32 c) (BitVec.ofNat 32 r) (by omega) (by omega)
  have en := neg_toInt (BitVec.ofNat 32 c - BitVec.ofNat 32 r) (by omega)
  have ea := abs_toInt (BitVec.ofNat 32 c - BitVec.ofNat 32 r) (by omega)
  have em := max_toInt 0#32 (-(BitVec.ofNat 32 c - BitVec.ofNat 32 r))
  have ez : (0#32 : BitVec 32).toInt = 0 := by decide
  have ek : (2047#32 : BitVec 32).toInt = 2047 := by decide
  have hab : |(BitVec.ofNat 32 c - BitVec.ofNat 32 r).toInt| = max ((c : ℤ) - r) (r - c) := by
    rw [e, er, ec, abs_eq_max_neg, neg_sub]
  have es := sub_toInt 2047#32 (IntOp.absi (BitVec.ofNat 32 c - BitVec.ofNat 32 r)) (by rw [ek, ea, hab]; omega) (by rw [ek, ea, hab]; omega)
  have hand : ∀ p q : Bool, IntOp.andi (BitVec.ofBool p) (BitVec.ofBool q) = 1#1 ↔ p = true ∧ q = true := by decide
  refine (hand _ _).trans ?_
  dsimp only
  rw [BitVec.sle, BitVec.slt, decide_eq_true_iff, decide_eq_true_iff, es, em, en, e, ea, hab, er, ec, ek, ez]
  unfold Keeps
  omega

/-- The elements of one row on diagonal `b`: the one kept there. -/
theorem row_sum (x : Matrix) (r b : ℕ) (hr : r < 2048) :
    (∑ c ∈ range 2048, if c + 2048 - r = b then (if Keeps r 2048 (c + 2048 - r) c then (x (cell r c) : EReal) else 0) else 0) = kept x b r := by
  unfold kept
  by_cases h : Keeps r 2048 b (b + r - 2048)
  · have h' := h
    unfold Keeps at h'
    have e : b + r - 2048 + 2048 - r = b := by omega
    rw [if_pos h, Finset.sum_eq_single (b + r - 2048) (fun c _ hc => if_neg (by omega)) (fun hn => absurd (Finset.mem_range.mpr (by omega)) hn),
      if_pos e, if_pos (by rw [e]; exact h)]
  · rw [if_neg h]
    refine Finset.sum_eq_zero fun c _ => ?_
    by_cases hb : c + 2048 - r = b
    · rw [if_pos hb, hb, if_neg fun hk => h ?_]
      have h' := hk
      unfold Keeps at h'
      rw [show b + r - 2048 = c by omega]
      exact hk
    · exact if_neg hb

/-- The rows that keep an element on diagonal `b`. -/
theorem keeping_rows (b : ℕ) (hb : b < 4096) :
    (range 2048).filter (fun r => Keeps r 2048 b (b + r - 2048)) = Finset.Ico (2048 - b) (if b < 2048 then b - 1 else 4095 - b) := by
  ext r
  rw [Finset.mem_filter, Finset.mem_range, Finset.mem_Ico]
  unfold Keeps
  split <;> omega

/-- The number of a diagonal's kept elements, as a sum of ones. -/
theorem ones_sum (b : ℕ) (hb : b < 4096) : diagSum (fun _ => (1 : EReal)) b = (((number b : ℤ) : ℝ) : EReal) := by
  have hn : ((range 2048).filter (fun r => Keeps r 2048 b (b + r - 2048))).card = number b := by
    rw [keeping_rows b hb, Nat.card_Ico]
    unfold number
    split <;> omega
  unfold diagSum kept
  rw [Finset.sum_boole, hn]
  simp

end Cert.KernelIdeal.Mean

end
-- ==== Proof.Mean.Scatter.lean ====
module

public import proofs.«01_k».proof.Proof.Mean.Words
public import proofs.«01_k».proof.Proof.Gen.ReferenceIdeal.Run

@[expose] public section

set_option maxRecDepth 16384

noncomputable section

/-! The reference's segment sum over the extended reals: at every diagonal, the sum over all elements that name it. -/

namespace Cert.ReferenceIdeal.Mean

open Idealize.ShloMosaic Cert.ReferenceIdeal.Gen
open Cert.KernelIdeal.Row (cell cell_eq)
open Finset (range)

variable [Cert.ReferenceIdeal.Facts]

/-- Where an element of the flattened matrix goes: to the place its word names, if there is one. -/
theorem target (y : IVec S4194304 32) (k : S4194304.Idx) (b : S4096.Idx) :
    scatter_S4096_S4194304x1_S4194304_n_0_0_1.resultIdx? k (broadcastInDim S4194304x1 ![0] Facts₀.bcast_S4194304_S4194304x1_0 y) = some b
      ↔ (y k).toInt = ((b 0).val : ℤ) := by
  have hs : ∀ a : Fin 1, scatter_S4096_S4194304x1_S4194304_n_0_0_1.start k (broadcastInDim S4194304x1 ![0] Facts₀.bcast_S4194304_S4194304x1_0 y) a = (y k).toInt := by
    intro a
    obtain rfl : a = (0 : Fin 1) := Subsingleton.elim _ _
    refine congrArg (fun i => (y i).toInt) ?_
    funext a
    obtain rfl : a = (0 : Fin 1) := Subsingleton.elim (α := Fin 1) _ _
    rfl
  have hw : ∀ a : Fin 1, scatter_S4096_S4194304x1_S4194304_n_0_0_1.window k a = 0 := by
    intro a
    obtain rfl : a = (0 : Fin 1) := Subsingleton.elim _ _
    rfl
  have hb : (b 0).val < 4096 := (b 0).isLt
  unfold ScatterDims.resultIdx?
  constructor
  · intro h
    split at h
    · rename_i hin
      have e := congrFun (Option.some.inj h) 0
      have e' := congrArg Fin.val e
      dsimp only at e'
      have h0 := hin 0
      rw [hs, hw] at h0
      rw [hs, hw] at e'
      omega
    · exact nomatch h
  · intro h
    rw [dif_pos (by
      intro a
      rw [hs, hw, h]
      obtain rfl : a = (0 : Fin 1) := Subsingleton.elim (α := Fin 1) _ _
      exact ⟨by omega, by show _ < (4096 : ℤ); omega⟩)]
    refine congrArg some (funext fun a => Fin.ext ?_)
    dsimp only
    rw [hs, hw, h]
    obtain rfl : a = (0 : Fin 1) := Subsingleton.elim (α := Fin 1) _ _
    omega

/-- A sum over the matrix's places, by row and column. -/
theorem sum_places (g : S2048x2048.Idx → EReal) : ∑ j, g j = ∑ r ∈ range 2048, ∑ c ∈ range 2048, g (cell r c) := by
  rw [← Finset.sum_product' (range 2048) (range 2048) fun r c => g (cell r c)]
  refine Finset.sum_nbij' (fun j => ((j 0).val, (j 1).val)) (fun p => cell p.1 p.2) ?_ ?_ ?_ ?_ ?_
  · intro j _
    have h0 : (j 0).val < 2048 := (j 0).isLt
    have h1 : (j 1).val < 2048 := (j 1).isLt
    rw [Finset.mem_product, Finset.mem_range, Finset.mem_range]
    exact ⟨h0, h1⟩
  · intro p _
    exact Finset.mem_univ _
  · intro j _
    exact (cell_eq j (j 0).val (j 1).val rfl rfl).symm
  · intro p hp
    rw [Finset.mem_product, Finset.mem_range, Finset.mem_range] at hp
    exact Prod.ext (Nat.mod_eq_of_lt hp.1) (Nat.mod_eq_of_lt hp.2)
  · intro j _
    exact congrArg g (cell_eq j (j 0).val (j 1).val rfl rfl)

/-- The segment sum, from zero, at a diagonal. -/
theorem segment_sum (z : FVec Ideal S4096 .f32) (hz : ∀ b, z b = (0 : EReal)) (seg : IVec S2048x2048 32) (v : FVec Ideal S2048x2048 .f32) (b : S4096.Idx) :
    (Host.scatterAdd scatter_S4096_S4194304x1_S4194304_n_0_0_1 z
        (broadcastInDim S4194304x1 ![0] Facts₀.bcast_S4194304_S4194304x1_0 (shapeCast S4194304 seg Facts₀.shapeCasts_S2048x2048_S4194304))
        (shapeCast S4194304 v Facts₀.shapeCasts_S2048x2048_S4194304) b : EReal)
      = ∑ r ∈ range 2048, ∑ c ∈ range 2048, if (seg (cell r c)).toInt = ((b 0).val : ℤ) then (v (cell r c) : EReal) else 0 := by
  show (z b + ∑ k ∈ Finset.univ.filter (fun k => scatter_S4096_S4194304x1_S4194304_n_0_0_1.resultIdx? k _ = some b),
    shapeCast S4194304 v Facts₀.shapeCasts_S2048x2048_S4194304 k : EReal) = _
  rw [hz, zero_add, Finset.sum_filter]
  refine Eq.trans ?_ (sum_places fun j => if (seg j).toInt = ((b 0).val : ℤ) then (v j : EReal) else 0)
  refine Eq.trans (Finset.sum_congr rfl fun k _ => ?_)
    (Equiv.sum_comp (Shape.reshapeEquiv Facts₀.shapeCasts_S2048x2048_S4194304) fun j => if (seg j).toInt = ((b 0).val : ℤ) then (v j : EReal) else 0)
  have ht := target (shapeCast S4194304 seg Facts₀.shapeCasts_S2048x2048_S4194304) k b
  by_cases h : (shapeCast S4194304 seg Facts₀.shapeCasts_S2048x2048_S4194304 k).toInt = ((b 0).val : ℤ)
  · rw [if_pos (ht.mpr h)]; exact (if_pos h).symm
  · rw [if_neg (mt ht.mp h)]; exact (if_neg h).symm

end Cert.ReferenceIdeal.Mean

end
-- ==== Proof.Mean.Claim.lean ====
module

public import proofs.«01_k».proof.Proof.Frames
public import proofs.«01_k».proof.Proof.Mean.Scatter

@[expose] public section

set_option maxRecDepth 16384

noncomputable section

/-! The value claim: over the extended reals the kernel and the reference end with equal results. -/

namespace Cert.ReferenceIdeal.Mean

open Idealize.ShloMosaic Cert.ReferenceIdeal.Gen
open Idealize.ShloMosaic.TcCoe Idealize.SL.Sem
open Cert.KernelIdeal.Row (cell Keeps)
open Cert.KernelIdeal.Mean (diagWord keptWord diagWord_eq keptWord_eq kept diagSum number row_sum ones_sum)
open Finset (range)

/-- The row numbers, over the matrix. -/
def rows : IVec S2048x2048 32 :=
  broadcastInDim S2048x2048 ![0, 1] Facts₀.bcast_S2048x1_S2048x2048_0_1 (broadcastInDim S2048x1 ![0] Facts₀.bcast_S2048_S2048x1_0 (iotaInDim S2048 32 0))

/-- The column numbers, over the matrix. -/
def cols : IVec S2048x2048 32 :=
  broadcastInDim S2048x2048 ![0, 1] Facts₀.bcast_S1x2048_S2048x2048_0_1 (broadcastInDim S1x2048 ![1] Facts₀.bcast_S2048_S1x2048_1 (iotaInDim S2048 32 0))

theorem rows_apply (j : S2048x2048.Idx) : rows j = BitVec.ofNat 32 (j 0).val := by rfl
theorem cols_apply (j : S2048x2048.Idx) : cols j = BitVec.ofNat 32 (j 1).val := by rfl

/-- The diagonals, over the matrix. -/
def diags : IVec S2048x2048 32 :=
  addi (subi cols rows) (broadcastInDim S2048x2048 ![] Facts₀.bcast_S_S2048x2048 (constantI S_ 32 2048#32))

/-- Which elements are kept. -/
def keeps : IVec S2048x2048 1 :=
  andi (cmpi .sge rows (maxsi (broadcastInDim S2048x2048 ![] Facts₀.bcast_S_S2048x2048 (constantI S_ 32 0#32)) (negi (subi cols rows))))
    (cmpi .slt rows (subi (broadcastInDim S2048x2048 ![] Facts₀.bcast_S_S2048x2048 (constantI S_ 32 2047#32)) (absi (subi cols rows))))

theorem diags_apply (r c : ℕ) (hr : r < 2048) (hc : c < 2048) : (diags (cell r c)).toInt = ((c + 2048 - r : ℕ) : ℤ) := by
  rw [← diagWord_eq r c hr hc]
  have h0 : rows (cell r c) = BitVec.ofNat 32 r := (rows_apply _).trans (congrArg (BitVec.ofNat 32) (Nat.mod_eq_of_lt hr))
  have h1 : cols (cell r c) = BitVec.ofNat 32 c := (cols_apply _).trans (congrArg (BitVec.ofNat 32) (Nat.mod_eq_of_lt hc))
  show (diagWord (rows (cell r c)) (cols (cell r c))).toInt = _
  rw [h0, h1]

theorem keeps_apply (r c : ℕ) (hr : r < 2048) (hc : c < 2048) : keeps (cell r c) = 1#1 ↔ Keeps r 2048 (c + 2048 - r) c := by
  rw [← keptWord_eq r c hr hc]
  have h0 : rows (cell r c) = BitVec.ofNat 32 r := (rows_apply _).trans (congrArg (BitVec.ofNat 32) (Nat.mod_eq_of_lt hr))
  have h1 : cols (cell r c) = BitVec.ofNat 32 c := (cols_apply _).trans (congrArg (BitVec.ofNat 32) (Nat.mod_eq_of_lt hc))
  show keptWord (rows (cell r c)) (cols (cell r c)) = 1#1 ↔ _
  rw [h0, h1]

/-- The sums start from zero. -/
def zeros : FVec Ideal S4096 .f32 := broadcastInDim S4096 ![] Facts₀.bcast_S_S4096 (constant S_ .f32 0x00000000#32)

theorem zeros_apply (b : S4096.Idx) : zeros b = (0 : EReal) := Ideal.ofBits_zero_f32

/-- A segment sum over the diagonals. -/
def segments (v : FVec Ideal S2048x2048 .f32) : FVec Ideal S4096 .f32 :=
  Host.scatterAdd scatter_S4096_S4194304x1_S4194304_n_0_0_1 zeros
    (broadcastInDim S4194304x1 ![0] Facts₀.bcast_S4194304_S4194304x1_0 (shapeCast S4194304 diags Facts₀.shapeCasts_S2048x2048_S4194304))
    (shapeCast S4194304 v Facts₀.shapeCasts_S2048x2048_S4194304)

/-- The segment sum of a matrix that is `x` where kept and zero elsewhere. -/
theorem segments_apply (v : FVec Ideal S2048x2048 .f32) (x : S2048x2048.Idx → Ideal .f32)
    (hv : ∀ j, v j = if keeps j = 1#1 then (x j : EReal) else 0) (b : S4096.Idx) : (segments v b : EReal) = diagSum x (b 0).val := by
  refine (segment_sum zeros zeros_apply diags v b).trans ?_
  unfold diagSum
  refine Finset.sum_congr rfl fun r hr => ?_
  have hr := Finset.mem_range.mp hr
  rw [← row_sum x r (b 0).val hr]
  refine Finset.sum_congr rfl fun c hc => ?_
  have hc := Finset.mem_range.mp hc
  rw [diags_apply r c hr hc, hv]
  by_cases h : c + 2048 - r = (b 0).val
  · rw [if_pos h, if_pos (congrArg (fun n : ℕ => (n : ℤ)) h)]
    have hk := keeps_apply r c hr hc
    by_cases h' : Keeps r 2048 (c + 2048 - r) c
    · rw [if_pos h', if_pos (hk.mpr h')]
    · rw [if_neg h', if_neg (mt hk.mp h')]
  · rw [if_neg h, if_neg fun h' => h (Nat.cast_injective h')]

/-- The kept elements, zero elsewhere. -/
def selected (x : FVec Ideal S2048x2048 .f32) : FVec Ideal S2048x2048 .f32 :=
  select keeps x (broadcastInDim S2048x2048 ![] Facts₀.bcast_S_S2048x2048 (constant S_ .f32 0x00000000#32))

/-- The reference's result. -/
def means (x : FVec Ideal S2048x2048 .f32) : FVec Ideal S4096 .f32 := Host.divf (segments (selected x)) (segments (uitofp .f32 keeps))

theorem divf_apply {s : Shape} (p q : FVec Ideal s .f32) (i : s.Idx) : Host.divf p q i = (Ideal.div (p i) (q i) : EReal) := rfl

/-- The reference's result at a diagonal: the kept elements' sum by their number. -/
theorem means_apply (x : FVec Ideal S2048x2048 .f32) (b : S4096.Idx) :
    (means x b : EReal) = Ideal.div (diagSum x (b 0).val) (((number (b 0).val : ℤ) : ℝ) : EReal) := by
  unfold means
  refine (divf_apply _ _ b).trans (congrArg₂ Ideal.div ?_ ?_)
  · refine segments_apply _ x (fun j => ?_) b
    show (if keeps j = 1#1 then x j else (Scalar.ofBits (F := Ideal) .f32 0x00000000#32) : EReal) = _
    rw [show (Scalar.ofBits (F := Ideal) .f32 0x00000000#32 : EReal) = 0 from Ideal.ofBits_zero_f32]
  · have hb : (b 0).val < 4096 := (b 0).isLt
    rw [← ones_sum (b 0).val hb]
    refine segments_apply _ (fun _ => (1 : EReal)) (fun j => ?_) b
    show (((keeps j).toNat : ℝ) : EReal) = _
    have hw : ∀ w : BitVec 1, w.toNat = if w = 1#1 then 1 else 0 := by decide
    rw [hw]
    split <;> simp

end Cert.ReferenceIdeal.Mean

namespace Cert.Proof

open Idealize.ShloMosaic Idealize.ShloMosaic.TcCoe Idealize.SL.Sem

/-- Over the extended reals, from memories that agree on the argument, the kernel and the reference end with equal results
    and leave the argument as it was. -/
theorem algebraic : Cert.algebraic_KernelIdeal_ReferenceIdeal := by
  intro m g m' g' _ hagree
  refine ⟨fun c => Cert.KernelIdeal.Run.result m c, ?_, ?_⟩
  · exact (θ_run _ _ _).mono (fun r h c => ⟨(h.1 c).2, (h.1 c).1⟩) (Cert.KernelIdeal.Run.run_main (F := Ideal) m g)
  · refine (θ_run _ _ _).mono (fun r h c => ⟨(h c).1.trans ?_, (h c).2⟩) (Cert.ReferenceIdeal.Value.run (F := Ideal) m' g')
    show Cert.ReferenceIdeal.Mean.means (m' ((c : Thread Cert.ReferenceIdeal.nD Cert.ReferenceIdeal.τ).loc Cert.ReferenceIdeal.main_arg0)) = _
    rw [hagree c]
    funext b
    exact (Cert.ReferenceIdeal.Mean.means_apply _ b).trans (Cert.KernelIdeal.Mean.result_apply m c b).symm

end Cert.Proof

end
-- ==== Proof.lean ====
module

public import proofs.«01_k».proof.Proof.Frames
public import proofs.«01_k».proof.Proof.Mean.Claim

@[expose] public section

noncomputable section

/-! The certificate: the programs' side conditions, then the claims in order. -/

namespace Cert.Proof

/-- Every claim of the certificate holds. -/
theorem claim : Cert.Claim :=
  ⟨Cert.Kernel.Gen.facts, Cert.KernelIdeal.Gen.facts, Cert.ReferenceIdeal.Gen.facts, frame_kernel,
    frame_kernelIdeal, frame_reference, trivial, algebraic⟩

end Cert.Proof

end
